-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_inputs [hPre_proper_inputs : Cert.Pre_proper_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_inputs [hPre_proper_inputs : Cert.Pre_proper_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_proper_inputs [hKernelIdeal : Cert.KernelIdeal.Facts] [hPre_proper_inputs : Cert.Pre_proper_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_proper_inputs [hReferenceIdeal : Cert.ReferenceIdeal.Facts] [hPre_proper_inputs : Cert.Pre_proper_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_step_0" .f32 0x4044EC4F#32 ((16777216 / 5452595 : ℝ) : EReal)
  ∧ IdealRules.named_const.Statement Cert.KernelIdeal.κ "inv_step_1" .f32 0x41C4EC4F#32 ((134217728 / 5452595 : ℝ) : EReal)
  ∧ IdealRules.named_const.Statement Cert.KernelIdeal.κ "inv_step_2" .f32 0x4344EC4F#32 ((1073741824 / 5452595 : ℝ) : EReal)
  ∧ IdealRules.named_const.Statement Cert.KernelIdeal.κ "inv_step_3" .f32 0x44C4EC4F#32 ((8589934592 / 5452595 : ℝ) : EReal)

def algebraic_KernelIdeal_ReferenceIdeal_on_separated_pre_proper_inputs [hKernelIdeal : Cert.KernelIdeal.Facts] [hReferenceIdeal : Cert.ReferenceIdeal.Facts] [hPre_proper_inputs : Cert.Pre_proper_inputs.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v17) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 1]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v46) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_proper_inputs : Cert.Pre_proper_inputs.Facts) (hOn_separated : Cert.On_separated.Facts),
    quiescent_Kernel (hKernel := hKernel)
    ∧ quiescent_KernelIdeal (hKernelIdeal := hKernelIdeal)
    ∧ quiescent_KernelIdeal_pre_proper_inputs (hKernelIdeal := hKernelIdeal) (hPre_proper_inputs := hPre_proper_inputs)
    ∧ quiescent_ReferenceIdeal (hReferenceIdeal := hReferenceIdeal)
    ∧ quiescent_ReferenceIdeal_pre_proper_inputs (hReferenceIdeal := hReferenceIdeal) (hPre_proper_inputs := hPre_proper_inputs)
    ∧ preserves_Kernel_KernelIdeal
    ∧ algebraic_KernelIdeal_ReferenceIdeal_on_separated_pre_proper_inputs (hKernelIdeal := hKernelIdeal) (hReferenceIdeal := hReferenceIdeal) (hPre_proper_inputs := hPre_proper_inputs) (hOn_separated := hOn_separated)
-- ==== On_separated.lean ====
abbrev S1024x64 : Shape := ⟨2, ![1024, 64]⟩
abbrev S100000x64 : Shape := ⟨2, ![100000, 64]⟩
abbrev S100000 : Shape := ⟨1, ![100000]⟩
abbrev S64x100000 : Shape := ⟨2, ![64, 100000]⟩
abbrev S1024x100000 : Shape := ⟨2, ![1024, 100000]⟩
abbrev S_ : Shape := ⟨0, ![]⟩
abbrev S1x100000 : Shape := ⟨2, ![1, 100000]⟩
abbrev S1024x128 : Shape := ⟨2, ![1024, 128]⟩
abbrev S1024x1 : Shape := ⟨2, ![1024, 1]⟩
abbrev S1024 : Shape := ⟨1, ![1024]⟩

class Facts : Prop where
  transposes_S100000x64_S64x100000_1_0 : S100000x64.Transposes [1, 0] S64x100000
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  sliceFits_S1024x100000_S1024x128 : S1024x100000.Slices (fun _ => 0) S1024x128
  slices_S1024x128_S1024x1_0_127 : S1024x128.Slices ![0, 127] S1024x1
  bcast_S_S1024x1 : S_.BroadcastsInDim S1024x1 (![] : Fin 0 → Fin S1024x1.rank)
  bcast_S1024x1_S1024x100000_0_1 : S1024x1.BroadcastsInDim S1024x100000 (![0, 1] : Fin 2 → Fin S1024x100000.rank)
  reducesTo_S1024x100000_S1024_d1 : S1024x100000.ReducesTo [1] S1024
  h_S_ : 0 < S_.numel
  bcast_S1024_S1024x1_0 : S1024.BroadcastsInDim S1024x1 (![0] : Fin 1 → Fin S1024x1.rank)
  dot_S1024x64_S64x100000_S1024x100000_1_0_0_1_n_n_wf : DotDims.WF S1024x64 S64x100000 S1024x100000 [1] [0] [0] [1] [] []

variable [Facts]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn_part3 {F : FTy → Type} [FloatOps F] (main_v7 : FVec F S1024x100000 .f32) (main_v26 : FVec F S1024x1 .f32) (main_v37 : FVec F S1024x1 .f32) (main_v44 : FVec F S1024x1 .f32) (main_v52 : IVec S1024x1 1) : IVec S1024x1 1 :=
  let main_cst_16 : FVec F S_ .f32 := constant S_ .f32 0x43000000#32
  let main_v53 : FVec F S1024x1 .f32 := broadcastInDim S1024x1 ![] bcast_S_S1024x1 main_cst_16
  let main_v54 : IVec S1024x1 1 := cmpf .olt main_v37 main_v53
  let main_v55 : IVec S1024x1 1 := andi main_v52 main_v54
  let main_cst_17 : FVec F S_ .f32 := constant S_ .f32 0x43000000#32
  let main_v56 : FVec F S1024x1 .f32 := broadcastInDim S1024x1 ![] bcast_S_S1024x1 main_cst_17
  let main_v57 : IVec S1024x1 1 := cmpf .oeq main_v26 main_v56
  let main_v58 : FVec F S1024x100000 .f32 := broadcastInDim S1024x100000 ![0, 1] bcast_S1024x1_S1024x100000_0_1 main_v44
  let main_v59 : IVec S1024x100000 1 := cmpf .oge main_v7 main_v58
  let main_v60 : FVec F S1024x100000 .f32 := uitofp .f32 main_v59
  let main_cst_18 : FVec F S_ .f32 := constant S_ .f32 0x00000000#32
  let main_v61 : FVec F S1024 .f32 := (fun x v => Host.reduceAdd x v reducesTo_S1024x100000_S1024_d1 h_S_) main_v60 main_cst_18
  let main_v62 : FVec F S1024x1 .f32 := broadcastInDim S1024x1 ![0] bcast_S1024_S1024x1_0 main_v61
  let main_cst_19 : FVec F S_ .f32 := constant S_ .f32 0x43000000#32
  let main_v63 : FVec F S1024x1 .f32 := broadcastInDim S1024x1 ![] bcast_S_S1024x1 main_cst_19
  let main_v64 : IVec S1024x1 1 := cmpf .oeq main_v62 main_v63
  let main_v65 : IVec S1024x1 1 := andi main_v55 main_v64
  let main_v66 : IVec S1024x1 1 := ori main_v57 main_v65
  main_v66

def fn_part2 {F : FTy → Type} [FloatOps F] (main_v7 : FVec F S1024x100000 .f32) (main_v17 : FVec F S1024x1 .f32) (main_v21 : FVec F S1024x1 .f32) (main_v26 : FVec F S1024x1 .f32) (main_v34 : IVec S1024x100000 1) : IVec S1024x1 1 :=
  let main_v35 : FVec F S1024x100000 .f32 := uitofp .f32 main_v34
  let main_cst_10 : FVec F S_ .f32 := constant S_ .f32 0x00000000#32
  let main_v36 : FVec F S1024 .f32 := (fun x v => Host.reduceAdd x v reducesTo_S1024x100000_S1024_d1 h_S_) main_v35 main_cst_10
  let main_v37 : FVec F S1024x1 .f32 := broadcastInDim S1024x1 ![0] bcast_S1024_S1024x1_0 main_v36
  let main_cst_11 : FVec F S_ .f32 := constant S_ .f32 0x43000000#32
  let main_v38 : FVec F S1024x1 .f32 := broadcastInDim S1024x1 ![] bcast_S_S1024x1 main_cst_11
  let main_v39 : FVec F S1024x1 .f32 := subf main_v26 main_v38
  let main_v40 : FVec F S1024x1 .f32 := subf main_v26 main_v37
  let main_v41 : FVec F S1024x1 .f32 := Host.divf main_v39 main_v40
  let main_cst_12 : FVec F S_ .f32 := constant S_ .f32 0x3A266666#32
  let main_v42 : FVec F S1024x1 .f32 := broadcastInDim S1024x1 ![] bcast_S_S1024x1 main_cst_12
  let main_v43 : FVec F S1024x1 .f32 := mulf main_v42 main_v41
  let main_v44 : FVec F S1024x1 .f32 := addf main_v21 main_v43
  let main_cst_13 : FVec F S_ .f32 := constant S_ .f32 0x00000000#32
  let main_v45 : FVec F S1024x1 .f32 := broadcastInDim S1024x1 ![] bcast_S_S1024x1 main_cst_13
  let main_v46 : IVec S1024x1 1 := cmpf .ogt main_v17 main_v45
  let main_cst_14 : FVec F S_ .f32 := constant S_ .f32 0x457FF000#32
  let main_v47 : FVec F S1024x1 .f32 := broadcastInDim S1024x1 ![] bcast_S_S1024x1 main_cst_14
  let main_v48 : IVec S1024x1 1 := cmpf .olt main_v17 main_v47
  let main_v49 : IVec S1024x1 1 := andi main_v46 main_v48
  let main_cst_15 : FVec F S_ .f32 := constant S_ .f32 0x43000000#32
  let main_v50 : FVec F S1024x1 .f32 := broadcastInDim S1024x1 ![] bcast_S_S1024x1 main_cst_15
  let main_v51 : IVec S1024x1 1 := cmpf .oge main_v26 main_v50
  let main_v52 : IVec S1024x1 1 := andi main_v49 main_v51
  fn_part3 (F := F) main_v7 main_v26 main_v37 main_v44 main_v52

def fn_part1 {F : FTy → Type} [FloatOps F] (main_v7 : FVec F S1024x100000 .f32) (main_v15 : FVec F S1024x1 .f32) (main_v16 : FVec F S1024x1 .f32) : IVec S1024x1 1 :=
  let main_v17 : FVec F S1024x1 .f32 := minimumf main_v15 main_v16
  let main_cst_4 : FVec F S_ .f32 := constant S_ .f32 0x3A266666#32
  let main_v18 : FVec F S1024x1 .f32 := broadcastInDim S1024x1 ![] bcast_S_S1024x1 main_cst_4
  let main_v19 : FVec F S1024x1 .f32 := mulf main_v17 main_v18
  let main_cst_5 : FVec F S_ .f32 := constant S_ .f32 0xC14CCCCD#32
  let main_v20 : FVec F S1024x1 .f32 := broadcastInDim S1024x1 ![] bcast_S_S1024x1 main_cst_5
  let main_v21 : FVec F S1024x1 .f32 := addf main_v20 main_v19
  let main_v22 : FVec F S1024x100000 .f32 := broadcastInDim S1024x100000 ![0, 1] bcast_S1024x1_S1024x100000_0_1 main_v21
  let main_v23 : IVec S1024x100000 1 := cmpf .oge main_v7 main_v22
  let main_v24 : FVec F S1024x100000 .f32 := uitofp .f32 main_v23
  let main_cst_6 : FVec F S_ .f32 := constant S_ .f32 0x00000000#32
  let main_v25 : FVec F S1024 .f32 := (fun x v => Host.reduceAdd x v reducesTo_S1024x100000_S1024_d1 h_S_) main_v24 main_cst_6
  let main_v26 : FVec F S1024x1 .f32 := broadcastInDim S1024x1 ![0] bcast_S1024_S1024x1_0 main_v25
  let main_cst_7 : FVec F S_ .f32 := constant S_ .f32 0x3F800000#32
  let main_v27 : FVec F S1024x1 .f32 := broadcastInDim S1024x1 ![] bcast_S_S1024x1 main_cst_7
  let main_v28 : FVec F S1024x1 .f32 := addf main_v17 main_v27
  let main_cst_8 : FVec F S_ .f32 := constant S_ .f32 0x3A266666#32
  let main_v29 : FVec F S1024x1 .f32 := broadcastInDim S1024x1 ![] bcast_S_S1024x1 main_cst_8
  let main_v30 : FVec F S1024x1 .f32 := mulf main_v28 main_v29
  let main_cst_9 : FVec F S_ .f32 := constant S_ .f32 0xC14CCCCD#32
  let main_v31 : FVec F S1024x1 .f32 := broadcastInDim S1024x1 ![] bcast_S_S1024x1 main_cst_9
  let main_v32 : FVec F S1024x1 .f32 := addf main_v31 main_v30
  let main_v33 : FVec F S1024x100000 .f32 := broadcastInDim S1024x100000 ![0, 1] bcast_S1024x1_S1024x100000_0_1 main_v32
  let main_v34 : IVec S1024x100000 1 := cmpf .oge main_v7 main_v33
  fn_part2 (F := F) main_v7 main_v17 main_v21 main_v26 main_v34

def fn {F : FTy → Type} [FloatOps F] (main_arg0 : FVec F S1024x64 .f32) (main_arg1 : FVec F S100000x64 .f32) (main_arg2 : FVec F S100000 .f32) (main_arg3 : FVec F S100000 .f32) : IVec S1024x1 1 :=
  let main_v0 : FVec F S64x100000 .f32 := (transpose S64x100000 [1, 0] · transposes_S100000x64_S64x100000_1_0) main_arg1
  let main_v1 : FVec F S1024x100000 .f32 := (fun l r => Host.dotGeneral dot_S1024x64_S64x100000_S1024x100000_1_0_0_1_n_n none l r) main_arg0 main_v0
  let main_cst : FVec F S_ .f32 := constant S_ .f32 0x322BCC77#32
  let main_v2 : FVec F S100000 .f32 := broadcastInDim S100000 ![] bcast_S_S100000 main_cst
  let main_v3 : FVec F S100000 .f32 := addf main_arg3 main_v2
  let main_v4 : FVec F S100000 .f32 := Host.log main_v3
  let main_v5 : FVec F S1x100000 .f32 := broadcastInDim S1x100000 ![1] bcast_S100000_S1x100000_1 main_v4
  let main_v6 : FVec F S1024x100000 .f32 := broadcastInDim S1024x100000 ![0, 1] bcast_S1x100000_S1024x100000_0_1 main_v5
  let main_v7 : FVec F S1024x100000 .f32 := addf main_v1 main_v6
  let main_values : FVec F S1024x128 .f32 := (fun x => (Host.topK S1024x128 1 (FloatOps.cmpfTotal .gt) x sliceFits_S1024x100000_S1024x128).1) main_v7
  let main_indices : IVec S1024x128 32 := (fun x => (Host.topK S1024x128 1 (FloatOps.cmpfTotal .gt) x sliceFits_S1024x100000_S1024x128).2) main_v7
  let main_v8 : FVec F S1024x1 .f32 := (extractStridedSlice S1024x1 ![0, 127] · slices_S1024x128_S1024x1_0_127) main_values
  let main_cst_0 : FVec F S_ .f32 := constant S_ .f32 0xC14CCCCD#32
  let main_v9 : FVec F S1024x1 .f32 := broadcastInDim S1024x1 ![] bcast_S_S1024x1 main_cst_0
  let main_v10 : FVec F S1024x1 .f32 := subf main_v8 main_v9
  let main_cst_1 : FVec F S_ .f32 := constant S_ .f32 0x3A266666#32
  let main_v11 : FVec F S1024x1 .f32 := broadcastInDim S1024x1 ![] bcast_S_S1024x1 main_cst_1
  let main_v12 : FVec F S1024x1 .f32 := Host.divf main_v10 main_v11
  let main_v13 : FVec F S1024x1 .f32 := Host.floor main_v12
  let main_cst_2 : FVec F S_ .f32 := constant S_ .f32 0x00000000#32
  let main_v14 : FVec F S1024x1 .f32 := broadcastInDim S1024x1 ![] bcast_S_S1024x1 main_cst_2
  let main_v15 : FVec F S1024x1 .f32 := maximumf main_v13 main_v14
  let main_cst_3 : FVec F S_ .f32 := constant S_ .f32 0x457FF000#32
  let main_v16 : FVec F S1024x1 .f32 := broadcastInDim S1024x1 ![] bcast_S_S1024x1 main_cst_3
  fn_part1 (F := F) main_v7 main_v15 main_v16
-- ==== Pre_proper_inputs.lean ====
abbrev S1024x64 : Shape := ⟨2, ![1024, 64]⟩
abbrev S100000x64 : Shape := ⟨2, ![100000, 64]⟩
abbrev S100000 : Shape := ⟨1, ![100000]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S1024x64 .f32) (main_arg1 : FVec F S100000x64 .f32) (main_arg2 : FVec F S100000 .f32) (main_arg3 : FVec F S100000 .f32) : IVec S100000 1 × IVec S100000 1 :=
  let main_v0 : FVec F S100000 .f32 := Host.absf main_arg2
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_cst_0 : FVec F S_ .f32 := constant S_ .f32 0x7F800000#32
  let main_v3 : FVec F S100000 .f32 := broadcastInDim S100000 ![] bcast_S_S100000 main_cst_0
  let main_v4 : IVec S100000 1 := cmpf .olt main_arg3 main_v3
  (main_v2, main_v4)
-- ==== Kernel.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S100352 : Shape := ⟨1, ![100352]⟩
abbrev S1x100352 : Shape := ⟨2, ![1, 100352]⟩
abbrev S100352x64 : Shape := ⟨2, ![100352, 64]⟩
abbrev S1024x1 : Shape := ⟨2, ![1024, 1]⟩
abbrev S512x64 : Shape := ⟨2, ![512, 64]⟩
abbrev S2048x64 : Shape := ⟨2, ![2048, 64]⟩
abbrev S1x2048 : Shape := ⟨2, ![1, 2048]⟩
abbrev S512x1 : Shape := ⟨2, ![512, 1]⟩
abbrev S512x2048 : Shape := ⟨2, ![512, 2048]⟩
abbrev S512 : Shape := ⟨1, ![512]⟩

abbrev nBuf : Space → Nat
  | .hbm => 34
  | .vmem => 25
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .f32⟩
  | .hbm, ⟨3, _⟩ => ⟨S100000, .f32⟩
  | .hbm, ⟨4, _⟩ => ⟨S_, .f32⟩
  | .hbm, ⟨5, _⟩ => ⟨S100000, .f32⟩
  | .hbm, ⟨6, _⟩ => ⟨S100000, .f32⟩
  | .hbm, ⟨7, _⟩ => ⟨S100000, .f32⟩
  | .hbm, ⟨8, _⟩ => ⟨S_, .f32⟩
  | .hbm, ⟨9, _⟩ => ⟨S_, .f32⟩
  | .hbm, ⟨10, _⟩ => ⟨S100352, .f32⟩
  | .hbm, ⟨11, _⟩ => ⟨S1x100352, .f32⟩
  | .hbm, ⟨12, _⟩ => ⟨S_, .i32⟩
  | .hbm, ⟨13, _⟩ => ⟨S_, .f32⟩
  | .hbm, ⟨14, _⟩ => ⟨S100352x64, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S_, .f32⟩
  | .hbm, ⟨27, _⟩ => ⟨S100352, .f32⟩
  | .hbm, ⟨28, _⟩ => ⟨S1x100352, .f32⟩
  | .hbm, ⟨29, _⟩ => ⟨S_, .i32⟩
  | .hbm, ⟨30, _⟩ => ⟨S_, .f32⟩
  | .hbm, ⟨31, _⟩ => ⟨S100352, .f32⟩
  | .hbm, ⟨32, _⟩ => ⟨S1x100352, .f32⟩
  | .hbm, ⟨33, _⟩ => ⟨S1024x1, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S2048x64, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x2048, .i32⟩
  | .local _ .vmem, ⟨18, _⟩ => ⟨S512x2048, .i32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call1_v0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 5, 49], ![false, false, false]⟩

def k0_cond13 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond15 (i : grid0.Coords) : BitVec 1 :=
  let arg2 : BitVec 32 := BitVec.ofNat 32 (i 2).val
  let c48_i32 : BitVec 32 := 48#32
  let v99 : BitVec 1 := Scalar.cmpi .eq arg2 c48_i32
  let v100 : BitVec 32 := Scalar.extui v99
  let c0_i32_56 : BitVec 32 := 0#32
  let v101 : BitVec 1 := Scalar.cmpi .ne v100 c0_i32_56
  v101

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== KernelIdeal.lean ====
variable {F : FTy → Type} [FloatOps F] [Named F]
def κ : String → Option EReal := fun
  | "inv_step_0" => some ((16777216 / 5452595 : ℝ) : EReal)
  | "inv_step_1" => some ((134217728 / 5452595 : ℝ) : EReal)
  | "inv_step_2" => some ((1073741824 / 5452595 : ℝ) : EReal)
  | "inv_step_3" => some ((8589934592 / 5452595 : ℝ) : EReal)
  | _ => none
-- ==== ReferenceIdeal.lean ====
abbrev S1024x64 : Shape := ⟨2, ![1024, 64]⟩
abbrev S100000x64 : Shape := ⟨2, ![100000, 64]⟩
abbrev S100000 : Shape := ⟨1, ![100000]⟩
abbrev S64x100000 : Shape := ⟨2, ![64, 100000]⟩
abbrev S1024x100000 : Shape := ⟨2, ![1024, 100000]⟩
abbrev S_ : Shape := ⟨0, ![]⟩
abbrev S1x100000 : Shape := ⟨2, ![1, 100000]⟩
abbrev S1024x128 : Shape := ⟨2, ![1024, 128]⟩
abbrev S1024x128x1 : Shape := ⟨3, ![1024, 128, 1]⟩
abbrev S1024x128x64 : Shape := ⟨3, ![1024, 128, 64]⟩
abbrev S1024 : Shape := ⟨1, ![1024]⟩
abbrev S1024x1 : Shape := ⟨2, ![1024, 1]⟩

abbrev nBuf : Space → Nat
  | .hbm => 66
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .f32⟩
  | .hbm, ⟨3, _⟩ => ⟨S100000, .f32⟩
  | .hbm, ⟨4, _⟩ => ⟨S64x100000, .f32⟩
  | .hbm, ⟨5, _⟩ => ⟨S1024x100000, .f32⟩
  | .hbm, ⟨6, _⟩ => ⟨S_, .f32⟩
  | .hbm, ⟨7, _⟩ => ⟨S1024x100000, .f32⟩
  | .hbm, ⟨8, _⟩ => ⟨S1024x100000, .f32⟩
  | .hbm, ⟨9, _⟩ => ⟨S1024x100000, .f32⟩
  | .hbm, ⟨10, _⟩ => ⟨S1x100000, .f32⟩
  | .hbm, ⟨11, _⟩ => ⟨S_, .f32⟩
  | .hbm, ⟨12, _⟩ => ⟨S1x100000, .f32⟩
  | .hbm, ⟨13, _⟩ => ⟨S1x100000, .f32⟩
  | .hbm, ⟨14, _⟩ => ⟨S1024x100000, .f32⟩
  | .hbm, ⟨15, _⟩ => ⟨S1024x100000, .f32⟩
  | .hbm, ⟨16, _⟩ => ⟨S1024x128, .f32⟩
  | .hbm, ⟨17, _⟩ => ⟨S1024x128, .i32⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S_, .i32⟩
  | .hbm, ⟨22, _⟩ => ⟨S1024x128, .i32⟩
  | .hbm, ⟨23, _⟩ => ⟨S1024x128, .i32⟩
  | .hbm, ⟨24, _⟩ => ⟨S1024x128, .i32⟩
  | .hbm, ⟨25, _⟩ => ⟨S1024x128x1, .i32⟩
  | .hbm, ⟨26, _⟩ => ⟨S1024x128x64, .f32⟩
  | .hbm, ⟨27, _⟩ => ⟨S_, .i32⟩
  | .hbm, ⟨28, _⟩ => ⟨S1024x128, .i32⟩
  | .hbm, ⟨29, _⟩ => ⟨S1024x128, .i1⟩
  | .hbm, ⟨30, _⟩ => ⟨S_, .i32⟩
  | .hbm, ⟨31, _⟩ => ⟨S1024x128, .i32⟩
  | .hbm, ⟨32, _⟩ => ⟨S1024x128, .i32⟩
  | .hbm, ⟨33, _⟩ => ⟨S1024x128, .i32⟩
  | .hbm, ⟨34, _⟩ => ⟨S1024x128x1, .i32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S_, .i32⟩
  | .hbm, ⟨40, _⟩ => ⟨S1024x128, .i32⟩
  | .hbm, ⟨41, _⟩ => ⟨S1024x128, .i1⟩
  | .hbm, ⟨42, _⟩ => ⟨S_, .i32⟩
  | .hbm, ⟨43, _⟩ => ⟨S1024x128, .i32⟩
  | .hbm, ⟨44, _⟩ => ⟨S1024x128, .i32⟩
  | .hbm, ⟨45, _⟩ => ⟨S1024x128, .i32⟩
  | .hbm, ⟨46, _⟩ => ⟨S1024x128x1, .i32⟩
  | .hbm, ⟨47, _⟩ => ⟨S1024x128, .f32⟩
  | .hbm, ⟨48, _⟩ => ⟨S1024x128, .f32⟩
  | .hbm, ⟨49, _⟩ => ⟨S_, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S_, .f32⟩
  | .hbm, ⟨54, _⟩ => ⟨S1024x128, .f32⟩
  | .hbm, ⟨55, _⟩ => ⟨S1024x128, .f32⟩
  | .hbm, ⟨56, _⟩ => ⟨S1024x128, .f32⟩
  | .hbm, ⟨57, _⟩ => ⟨S_, .f32⟩
  | .hbm, ⟨58, _⟩ => ⟨S1024, .f32⟩
  | .hbm, ⟨59, _⟩ => ⟨S1024x1, .f32⟩
  | .hbm, ⟨60, _⟩ => ⟨S1024x128, .f32⟩
  | .hbm, ⟨61, _⟩ => ⟨S1024x128, .f32⟩
  | .hbm, ⟨62, _⟩ => ⟨S1024x128, .f32⟩
  | .hbm, ⟨63, _⟩ => ⟨S_, .f32⟩
  | .hbm, ⟨64, _⟩ => ⟨S1024, .f32⟩
  | .hbm, ⟨65, _⟩ => ⟨S1024x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_values : Ref sig .tc := ⟨.hbm, 16, rfl⟩
abbrev main_indices : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Kernel.Body.lean ====
module

public import proofs.«01_k».proof.Proof.Gen.Kernel.Frame
public import proofs.«01_k».proof.Proof.Gen.Kernel.Skeleton
public import Mathlib.Tactic.IntervalCases
public import Idealize.ShloMosaic.Lib.Pipeline.Frame
public import Idealize.ShloMosaic.Lib.Pipeline.FrameBody
public import Idealize.ShloMosaic.Lib.Tactic
public import Idealize.ShloMosaic.Lib.VecWindow

@[expose] public section

/-! # The frame of the bit-exact program

The body is run once for each of its fifteen kinds of grid point: five phases, and in each the first chunk, the
last one or another. Nothing is followed of what the buffers hold: a run needs them whole and gives them back whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A comparison of a small number with a literal, as the kernel tests it. -/
theorem cond_iff {a k : ℕ} (ha : a < 100) (hk : k < 100) :
    Scalar.cmpi .ne (Scalar.extui (Scalar.cmpi .eq (BitVec.ofNat 32 a) (BitVec.ofNat 32 k))) 0#32 = 1#1 ↔ a = k := by
  interval_cases k <;> (revert a; decide)

/-- The thirteen scratch buffers, each whole at some contents. -/
def scr (c : Dev nD) : sProp 𝕄 :=
  iprop((∃ d : Vec F S512x1 .f32, owns (c : Thread nD τ) (Memref.whole cc0_scratch0) fullShare d)
    ∗ (∃ d : Vec F S512x1 .f32, owns (c : Thread nD τ) (Memref.whole cc0_scratch1) fullShare d)
    ∗ (∃ d : Vec F S512x1 .f32, owns (c : Thread nD τ) (Memref.whole cc0_scratch2) fullShare d)
    ∗ (∃ d : Vec F S512x1 .f32, owns (c : Thread nD τ) (Memref.whole cc0_scratch3) fullShare d)
    ∗ (∃ d : Vec F S512x1 .f32, owns (c : Thread nD τ) (Memref.whole cc0_scratch4) fullShare d)
    ∗ (∃ d : Vec F S512x2048 .i32, owns (c : Thread nD τ) (Memref.whole cc0_scratch5) fullShare d)
    ∗ (∃ d : Vec F S512x2048 .i32, owns (c : Thread nD τ) (Memref.whole cc0_scratch6) fullShare d)
    ∗ (∃ d : Vec F S512x1 .f32, owns (c : Thread nD τ) (Memref.whole cc0_scratch7) fullShare d)
    ∗ (∃ d : Vec F S512x1 .f32, owns (c : Thread nD τ) (Memref.whole cc0_scratch8) fullShare d)
    ∗ (∃ d : Vec F S512x1 .f32, owns (c : Thread nD τ) (Memref.whole cc0_scratch9) fullShare d)
    ∗ (∃ d : Vec F S512x1 .f32, owns (c : Thread nD τ) (Memref.whole cc0_scratch10) fullShare d)
    ∗ (∃ d : Vec F S512x1 .f32, owns (c : Thread nD τ) (Memref.whole cc0_scratch11) fullShare d)
    ∗ (∃ d : Vec F S512x1 .f32, owns (c : Thread nD τ) (Memref.whole cc0_scratch12) fullShare d))

/-- The six windows' buffers, each whole at some contents. -/
def wins (c : Dev nD) (arg3 : Memref sig .tc .vmem S512x64 .f32) (arg4 : Memref sig .tc .vmem S2048x64 .f32) (arg5 : Memref sig .tc .vmem S1x2048 .f32) (arg6 : Memref sig .tc .vmem S1x2048 .f32) (arg7 : Memref sig .tc .vmem S1x2048 .f32) (arg8 : Memref sig .tc .vmem S512x1 .f32) : sProp 𝕄 :=
  iprop((∃ d, owns (c : Thread nD τ) arg3 fullShare d)
    ∗ (∃ d, owns (c : Thread nD τ) arg4 fullShare d)
    ∗ (∃ d, owns (c : Thread nD τ) arg5 fullShare d)
    ∗ (∃ d, owns (c : Thread nD τ) arg6 fullShare d)
    ∗ (∃ d, owns (c : Thread nD τ) arg7 fullShare d)
    ∗ (∃ d, owns (c : Thread nD τ) arg8 fullShare d))

set_option maxHeartbeats 8000000 in
/-- The body at any grid point runs to its return and gives back all it was handed. -/
theorem runs (c : Dev nD) (i : grid0.Coords)
    (arg3 : Memref sig .tc .vmem S512x64 .f32) (harg3 : arg3.IsWhole)
    (arg4 : Memref sig .tc .vmem S2048x64 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x1 .f32) (harg8 : arg8.IsWhole)
    (K : PUnit → sProp 𝕄) :
    iprop(wins c arg3 arg4 arg5 arg6 arg7 arg8 ∗ scr c ∗ (iprop(wins c arg3 arg4 arg5 arg6 arg7 arg8 ∗ scr c) -∗ K ⟨⟩))
      ⊢ wp frame (wpE (defs₀ (F := F)) Variants.none c none) Set.univ (cc0__body i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) K := by
  obtain ⟨p, h1⟩ : ∃ p, (i 1).val = p := ⟨_, rfl⟩
  obtain ⟨n, h2⟩ : ∃ n, (i 2).val = n := ⟨_, rfl⟩
  have hp : p < 5 := h1 ▸ (i 1).isLt
  have hn : n < 49 := h2 ▸ (i 2).isLt
  rw [cc0__body_eq_skeleton]; unfold cc0__body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  have c13 : k0_cond13 i = 1#1 ↔ p = 4 := by unfold k0_cond13; rw [h1]; exact cond_iff (by omega) (by omega)
  have c15 : k0_cond15 i = 1#1 ↔ n = 48 := by unfold k0_cond15; rw [h2]; exact cond_iff (by omega) (by omega)
  have c0 := cond_iff (a := n) (k := 0) (by omega) (by omega)
  have c48 := cond_iff (a := n) (k := 48) (by omega) (by omega)
  simp only [h1, h2]
  clear h1 h2
  unfold wins scr owns
  iintro ⟨⟨⟨%d3, %f3, -, H3⟩, ⟨%d4, %f4, -, H4⟩, ⟨%d5, %f5, -, H5⟩, ⟨%d6, %f6, -, H6⟩, ⟨%d7, %f7, -, H7⟩, ⟨%d8, %f8, -, H8⟩⟩,
    ⟨⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩⟩, Hk⟩
  rcases (by omega : n = 0 ∨ n = 48 ∨ n ≠ 0 ∧ n ≠ 48) with rfl | rfl | ⟨q0, q48⟩
  rotate_left 2
  · replace c0 := mt c0.1 q0
    replace c48 := mt c48.1 q48
    replace c15 := mt c15.1 q48
    interval_cases p
    all_goals
      sl_exec (disch := first | decide | (rw [c13]; decide))
      sl_step
      iapply Hk
      isplitl [H3 H4 H5 H6 H7 H8]
      · isplitl [H3]; (· iexists _, _; isplitr; swap; (· iexact H3); ipureintro; rfl)
        isplitl [H4]; (· iexists _, _; isplitr; swap; (· iexact H4); ipureintro; rfl)
        isplitl [H5]; (· iexists _, _; isplitr; swap; (· iexact H5); ipureintro; rfl)
        isplitl [H6]; (· iexists _, _; isplitr; swap; (· iexact H6); ipureintro; rfl)
        isplitl [H7]; (· iexists _, _; isplitr; swap; (· iexact H7); ipureintro; rfl)
        iexists _, _; isplitr; swap; (· iexact H8); ipureintro; rfl
      isplitl [H9]; (· iexists _, _; isplitr; swap; (· iexact H9); ipureintro; rfl)
      isplitl [H10]; (· iexists _, _; isplitr; swap; (· iexact H10); ipureintro; rfl)
      isplitl [H11]; (· iexists _, _; isplitr; swap; (· iexact H11); ipureintro; rfl)
      isplitl [H12]; (· iexists _, _; isplitr; swap; (· iexact H12); ipureintro; rfl)
      isplitl [H13]; (· iexists _, _; isplitr; swap; (· iexact H13); ipureintro; rfl)
      isplitl [H14]; (· iexists _, _; isplitr; swap; (· iexact H14); ipureintro; rfl)
      isplitl [H15]; (· iexists _, _; isplitr; swap; (· iexact H15); ipureintro; rfl)
      isplitl [H16]; (· iexists _, _; isplitr; swap; (· iexact H16); ipureintro; rfl)
      isplitl [H17]; (· iexists _, _; isplitr; swap; (· iexact H17); ipureintro; rfl)
      isplitl [H18]; (· iexists _, _; isplitr; swap; (· iexact H18); ipureintro; rfl)
      isplitl [H19]; (· iexists _, _; isplitr; swap; (· iexact H19); ipureintro; rfl)
      isplitl [H20]; (· iexists _, _; isplitr; swap; (· iexact H20); ipureintro; rfl)
      iexists _, _; isplitr; swap; (· iexact H21); ipureintro; rfl
  all_goals
    interval_cases p
    all_goals
      sl_exec (disch := first | decide | (rw [c13]; decide) | (rw [c15]; decide))
      sl_step
      iapply Hk
      isplitl [H3 H4 H5 H6 H7 H8]
      · isplitl [H3]; (· iexists _, _; isplitr; swap; (· iexact H3); ipureintro; rfl)
        isplitl [H4]; (· iexists _, _; isplitr; swap; (· iexact H4); ipureintro; rfl)
        isplitl [H5]; (· iexists _, _; isplitr; swap; (· iexact H5); ipureintro; rfl)
        isplitl [H6]; (· iexists _, _; isplitr; swap; (· iexact H6); ipureintro; rfl)
        isplitl [H7]; (· iexists _, _; isplitr; swap; (· iexact H7); ipureintro; rfl)
        iexists _, _; isplitr; swap; (· iexact H8); ipureintro; rfl
      isplitl [H9]; (· iexists _, _; isplitr; swap; (· iexact H9); ipureintro; rfl)
      isplitl [H10]; (· iexists _, _; isplitr; swap; (· iexact H10); ipureintro; rfl)
      isplitl [H11]; (· iexists _, _; isplitr; swap; (· iexact H11); ipureintro; rfl)
      isplitl [H12]; (· iexists _, _; isplitr; swap; (· iexact H12); ipureintro; rfl)
      isplitl [H13]; (· iexists _, _; isplitr; swap; (· iexact H13); ipureintro; rfl)
      isplitl [H14]; (· iexists _, _; isplitr; swap; (· iexact H14); ipureintro; rfl)
      isplitl [H15]; (· iexists _, _; isplitr; swap; (· iexact H15); ipureintro; rfl)
      isplitl [H16]; (· iexists _, _; isplitr; swap; (· iexact H16); ipureintro; rfl)
      isplitl [H17]; (· iexists _, _; isplitr; swap; (· iexact H17); ipureintro; rfl)
      isplitl [H18]; (· iexists _, _; isplitr; swap; (· iexact H18); ipureintro; rfl)
      isplitl [H19]; (· iexists _, _; isplitr; swap; (· iexact H19); ipureintro; rfl)
      isplitl [H20]; (· iexists _, _; isplitr; swap; (· iexact H20); ipureintro; rfl)
      iexists _, _; isplitr; swap; (· iexact H21); ipureintro; rfl

/-! ## The proof data and the body obligation -/

variable (m : (ℓ : Loc nD τ sig) → Buf (Elt F) ℓ) (ρ : Dev nD → PrngReg)

/-- The region's invariant: the scratch at some contents, the generator register at some state. -/
theorem PhiA_eq (c : Dev nD) :
    (Pipeline.ΦA spec0 c : sProp 𝕄) = iprop(scr c ∗ ∃ r, prngReg c r) := by
  unfold Pipeline.ΦA scr; rw [scopedRest0_eq]; simp only [owns_whole]; rfl

/-- Every window forgotten: nothing here reads what the body leaves in one. -/
def forgets0 : Fin 6 → Bool := fun _ => true

/-- The proof data: arrays as the region finds them, contents unnamed, the region's own invariant, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The windows' staging buffers at a point. -/
abbrev ms0_0 (t : Fin cfg0.N) : Memref sig .tc .vmem S512x64 .f32 := win0_0.stage (cfg0.slots t 0)
abbrev ms0_1 (t : Fin cfg0.N) : Memref sig .tc .vmem S2048x64 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S512x1 .f32 := win0_5.stage (cfg0.slots t 5)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨HS, Hg⟩, HO, HW⟩
  iapply (runs c (grid0.coords t) (ms0_0 t) (hstage0_0 _) (ms0_1 t) (hstage0_1 _) (ms0_2 t) (hstage0_2 _) (ms0_3 t) (hstage0_3 _)
    (ms0_4 t) (hstage0_4 _) (ms0_5 t) (hstage0_5 _) _)
  unfold wins
  isplitl [HW]; · iexact HW
  isplitl [HS]; · iexact HS
  iintro ⟨HW, HS⟩
  isplitl [HS Hg]
  · isplitl [HS]; · iexact HS
    iexact Hg
  isplitl [HO]; · iexact HO
  iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every weakly fair execution ends, with the buffers the region does not write as it found them and every counter at zero. -/
theorem run_main [∀ e, Nonempty (Elt F e)] :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

variable {m ρ}

/-- What the frame says of a final state: the arguments unchanged. -/
theorem final_args {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.Kernel.Hand

end
-- ==== Proof.KernelIdeal.Step.lean ====
module

public import proofs.«01_k».proof.Proof.Gen.KernelIdeal.Skeleton

@[expose] public section

/-! # One grid point as a function of the scratch buffers

The kernel keeps its working state in thirteen scratch buffers, and the state below has one field for each. A grid point `(row block, phase, chunk)` seeds the state on the phase's first chunk, adds the
chunk in, and closes the phase on its last chunk. -/

noncomputable section

namespace Cert.KernelIdeal.Hand

open Cert.KernelIdeal Cert.KernelIdeal.Gen
open Idealize.ShloMosaic

variable {F : FTy → Type} [FloatOps F] [Named F]

/-- A column of one number per query row of the block. -/
abbrev Col (F : FTy → Type) : Type := Vec F S512x1 .f32

/-- The scratch buffers: the interval's lower end, how many scores reach its upper end (`hi`) and its lower end (`lw`),
    the upper and lower thresholds, the two words of packed lane counts, and the six sums of the last phase. -/
structure St (F : FTy → Type) where
  lo : Col F
  hi : Col F
  lw : Col F
  ta : Col F
  tb : Col F
  acc0 : Vec F S512x2048 .i32
  acc1 : Vec F S512x2048 .i32
  numa : Col F
  dena : Col F
  numl : Col F
  denl : Col F
  cnta : Col F
  cntl : Col F

/-- The interval's new lower end when phase 0 closes, from the old one and the packed counts. -/
def newLo0 (lo : Col F) (a0 a1 : Vec F S512x2048 .i32) : Col F :=
  k0_pay29 lo (k0_pay15 a1) (k0_pay16 a1) (k0_pay17 a1) (k0_pay24 a0 (k0_pay18 a1) (k0_pay19 (F := F) a0) k0_pay20)
    (k0_pay25 a0 (k0_pay18 a1) (k0_pay19 (F := F) a0) k0_pay20) (k0_pay26 (k0_pay18 a1) (k0_pay19 (F := F) a0) k0_pay20) (k0_pay27 (k0_pay18 a1))

/-- As `newLo0`, for phase 1. -/
def newLo1 (lo : Col F) (a0 a1 : Vec F S512x2048 .i32) : Col F :=
  k0_pay62 lo (k0_pay48 a1) (k0_pay49 a1) (k0_pay50 a1) (k0_pay57 a0 (k0_pay51 a1) (k0_pay52 (F := F) a0) k0_pay53)
    (k0_pay58 a0 (k0_pay51 a1) (k0_pay52 (F := F) a0) k0_pay53) (k0_pay59 (k0_pay51 a1) (k0_pay52 (F := F) a0) k0_pay53) (k0_pay60 (k0_pay51 a1))

/-- As `newLo0`, for phase 2. -/
def newLo2 (lo : Col F) (a0 a1 : Vec F S512x2048 .i32) : Col F :=
  k0_pay92 lo (k0_pay78 a1) (k0_pay79 a1) (k0_pay80 a1) (k0_pay87 a0 (k0_pay81 a1) (k0_pay82 (F := F) a0) k0_pay83)
    (k0_pay88 a0 (k0_pay81 a1) (k0_pay82 (F := F) a0) k0_pay83) (k0_pay89 (k0_pay81 a1) (k0_pay82 (F := F) a0) k0_pay83) (k0_pay90 (k0_pay81 a1))

/-- As `newLo0`, for phase 3. -/
def newLo3 (lo : Col F) (a0 a1 : Vec F S512x2048 .i32) : Col F :=
  k0_pay122 lo (k0_pay108 a1) (k0_pay109 a1) (k0_pay110 a1) (k0_pay117 a0 (k0_pay111 a1) (k0_pay112 (F := F) a0) k0_pay113)
    (k0_pay118 a0 (k0_pay111 a1) (k0_pay112 (F := F) a0) k0_pay113) (k0_pay119 (k0_pay111 a1) (k0_pay112 (F := F) a0) k0_pay113) (k0_pay120 (k0_pay111 a1))

/-- How many scores reach the new interval's lower end when phase 0 closes, from that of the old one and the packed counts. -/
def newLw0 (lw : Col F) (a0 a1 : Vec F S512x2048 .i32) : Col F :=
  let v71 := k0_pay15 (F := F) a1
  let v79 := k0_pay16 (F := F) a1
  let v87 := k0_pay17 (F := F) a1
  let v95 := k0_pay18 (F := F) a1
  let v97 := k0_pay19 (F := F) a0
  let v103 := k0_pay21 v95 v97 k0_pay20
  let v111 := k0_pay22 a0 v95 v97 k0_pay20
  let v119 := k0_pay23 a0 v95 v97 k0_pay20
  let v124 := k0_pay24 a0 v95 v97 k0_pay20
  let v129 := k0_pay25 a0 v95 v97 k0_pay20
  let v134 := k0_pay26 v95 v97 k0_pay20
  let v139 := k0_pay27 v95
  let v162 := k0_pay28 v71 v79 v87 v124 v129 v134 v139
  let v170 := k0_pay30 v71 v79 v87 v124 v129 v134 v139 lw
  let v177 := k0_pay32 v71 v79 v87 v124 v129 v134 v139
  k0_pay34 v71 v79 v87 v95 v103 v111 v119 v162 v170 v177 k0_pay33

/-- How many scores reach the new interval's upper end when phase 0 closes, from that of the old one and the packed counts. -/
def newHi0 (hi : Col F) (a0 a1 : Vec F S512x2048 .i32) : Col F :=
  let v71 := k0_pay15 (F := F) a1
  let v79 := k0_pay16 (F := F) a1
  let v87 := k0_pay17 (F := F) a1
  let v95 := k0_pay18 (F := F) a1
  let v97 := k0_pay19 (F := F) a0
  let v103 := k0_pay21 v95 v97 k0_pay20
  let v111 := k0_pay22 a0 v95 v97 k0_pay20
  let v119 := k0_pay23 a0 v95 v97 k0_pay20
  let v124 := k0_pay24 a0 v95 v97 k0_pay20
  let v129 := k0_pay25 a0 v95 v97 k0_pay20
  let v134 := k0_pay26 v95 v97 k0_pay20
  let v139 := k0_pay27 v95
  let v162 := k0_pay28 v71 v79 v87 v124 v129 v134 v139
  let v175 := k0_pay31 v71 v79 v87 v124 v129 v134 v139 hi
  let v220 := k0_pay35 v111 v119 v162 v175
  k0_pay3 v71 v79 v87 v95 v103 v162 v220 k0_pay36

/-- As `newLw0`, for phase 1. -/
def newLw1 (lw : Col F) (a0 a1 : Vec F S512x2048 .i32) : Col F :=
  let v71 := k0_pay48 (F := F) a1
  let v79 := k0_pay49 (F := F) a1
  let v87 := k0_pay50 (F := F) a1
  let v95 := k0_pay51 (F := F) a1
  let v97 := k0_pay52 (F := F) a0
  let v103 := k0_pay54 v95 v97 k0_pay53
  let v111 := k0_pay55 a0 v95 v97 k0_pay53
  let v119 := k0_pay56 a0 v95 v97 k0_pay53
  let v124 := k0_pay57 a0 v95 v97 k0_pay53
  let v129 := k0_pay58 a0 v95 v97 k0_pay53
  let v134 := k0_pay59 v95 v97 k0_pay53
  let v139 := k0_pay60 v95
  let v162 := k0_pay61 v71 v79 v87 v124 v129 v134 v139
  let v170 := k0_pay63 v71 v79 v87 v124 v129 v134 v139 lw
  let v177 := k0_pay65 v71 v79 v87 v124 v129 v134 v139
  k0_pay67 v71 v79 v87 v95 v103 v111 v119 v162 v170 v177 k0_pay66

/-- As `newHi0`, for phase 1. -/
def newHi1 (hi : Col F) (a0 a1 : Vec F S512x2048 .i32) : Col F :=
  let v71 := k0_pay48 (F := F) a1
  let v79 := k0_pay49 (F := F) a1
  let v87 := k0_pay50 (F := F) a1
  let v95 := k0_pay51 (F := F) a1
  let v97 := k0_pay52 (F := F) a0
  let v103 := k0_pay54 v95 v97 k0_pay53
  let v111 := k0_pay55 a0 v95 v97 k0_pay53
  let v119 := k0_pay56 a0 v95 v97 k0_pay53
  let v124 := k0_pay57 a0 v95 v97 k0_pay53
  let v129 := k0_pay58 a0 v95 v97 k0_pay53
  let v134 := k0_pay59 v95 v97 k0_pay53
  let v139 := k0_pay60 v95
  let v162 := k0_pay61 v71 v79 v87 v124 v129 v134 v139
  let v175 := k0_pay64 v71 v79 v87 v124 v129 v134 v139 hi
  let v220 := k0_pay68 v111 v119 v162 v175
  k0_pay6 v71 v79 v87 v95 v103 v162 v220 k0_pay69

/-- As `newLw0`, for phase 2. -/
def newLw2 (lw : Col F) (a0 a1 : Vec F S512x2048 .i32) : Col F :=
  let v71 := k0_pay78 (F := F) a1
  let v79 := k0_pay79 (F := F) a1
  let v87 := k0_pay80 (F := F) a1
  let v95 := k0_pay81 (F := F) a1
  let v97 := k0_pay82 (F := F) a0
  let v103 := k0_pay84 v95 v97 k0_pay83
  let v111 := k0_pay85 a0 v95 v97 k0_pay83
  let v119 := k0_pay86 a0 v95 v97 k0_pay83
  let v124 := k0_pay87 a0 v95 v97 k0_pay83
  let v129 := k0_pay88 a0 v95 v97 k0_pay83
  let v134 := k0_pay89 v95 v97 k0_pay83
  let v139 := k0_pay90 v95
  let v162 := k0_pay91 v71 v79 v87 v124 v129 v134 v139
  let v170 := k0_pay93 v71 v79 v87 v124 v129 v134 v139 lw
  let v177 := k0_pay95 v71 v79 v87 v124 v129 v134 v139
  k0_pay97 v71 v79 v87 v95 v103 v111 v119 v162 v170 v177 k0_pay96

/-- As `newHi0`, for phase 2. -/
def newHi2 (hi : Col F) (a0 a1 : Vec F S512x2048 .i32) : Col F :=
  let v71 := k0_pay78 (F := F) a1
  let v79 := k0_pay79 (F := F) a1
  let v87 := k0_pay80 (F := F) a1
  let v95 := k0_pay81 (F := F) a1
  let v97 := k0_pay82 (F := F) a0
  let v103 := k0_pay84 v95 v97 k0_pay83
  let v111 := k0_pay85 a0 v95 v97 k0_pay83
  let v119 := k0_pay86 a0 v95 v97 k0_pay83
  let v124 := k0_pay87 a0 v95 v97 k0_pay83
  let v129 := k0_pay88 a0 v95 v97 k0_pay83
  let v134 := k0_pay89 v95 v97 k0_pay83
  let v139 := k0_pay90 v95
  let v162 := k0_pay91 v71 v79 v87 v124 v129 v134 v139
  let v175 := k0_pay94 v71 v79 v87 v124 v129 v134 v139 hi
  let v220 := k0_pay98 v111 v119 v162 v175
  k0_pay9 v71 v79 v87 v95 v103 v162 v220 k0_pay99

/-- As `newLw0`, for phase 3. -/
def newLw3 (lw : Col F) (a0 a1 : Vec F S512x2048 .i32) : Col F :=
  let v71 := k0_pay108 (F := F) a1
  let v79 := k0_pay109 (F := F) a1
  let v87 := k0_pay110 (F := F) a1
  let v95 := k0_pay111 (F := F) a1
  let v97 := k0_pay112 (F := F) a0
  let v103 := k0_pay114 v95 v97 k0_pay113
  let v111 := k0_pay115 a0 v95 v97 k0_pay113
  let v119 := k0_pay116 a0 v95 v97 k0_pay113
  let v124 := k0_pay117 a0 v95 v97 k0_pay113
  let v129 := k0_pay118 a0 v95 v97 k0_pay113
  let v134 := k0_pay119 v95 v97 k0_pay113
  let v139 := k0_pay120 v95
  let v162 := k0_pay121 v71 v79 v87 v124 v129 v134 v139
  let v170 := k0_pay123 v71 v79 v87 v124 v129 v134 v139 lw
  let v177 := k0_pay125 v71 v79 v87 v124 v129 v134 v139
  k0_pay127 v71 v79 v87 v95 v103 v111 v119 v162 v170 v177 k0_pay126

/-- As `newHi0`, for phase 3. -/
def newHi3 (hi : Col F) (a0 a1 : Vec F S512x2048 .i32) : Col F :=
  let v71 := k0_pay108 (F := F) a1
  let v79 := k0_pay109 (F := F) a1
  let v87 := k0_pay110 (F := F) a1
  let v95 := k0_pay111 (F := F) a1
  let v97 := k0_pay112 (F := F) a0
  let v103 := k0_pay114 v95 v97 k0_pay113
  let v111 := k0_pay115 a0 v95 v97 k0_pay113
  let v119 := k0_pay116 a0 v95 v97 k0_pay113
  let v124 := k0_pay117 a0 v95 v97 k0_pay113
  let v129 := k0_pay118 a0 v95 v97 k0_pay113
  let v134 := k0_pay119 v95 v97 k0_pay113
  let v139 := k0_pay120 v95
  let v162 := k0_pay121 v71 v79 v87 v124 v129 v134 v139
  let v175 := k0_pay124 v71 v79 v87 v124 v129 v134 v139 hi
  let v220 := k0_pay128 v111 v119 v162 v175
  k0_pay132 v71 v79 v87 v95 v103 v162 v220 k0_pay129

/-- The upper threshold when phase 3 closes. -/
def newTa (lo hi lw : Col F) (a0 a1 : Vec F S512x2048 .i32) : Col F :=
  let v71 := k0_pay108 (F := F) a1
  let v79 := k0_pay109 (F := F) a1
  let v87 := k0_pay110 (F := F) a1
  let v95 := k0_pay111 (F := F) a1
  let v97 := k0_pay112 (F := F) a0
  let v103 := k0_pay114 v95 v97 k0_pay113
  let v111 := k0_pay115 a0 v95 v97 k0_pay113
  let v119 := k0_pay116 a0 v95 v97 k0_pay113
  let v124 := k0_pay117 a0 v95 v97 k0_pay113
  let v129 := k0_pay118 a0 v95 v97 k0_pay113
  let v134 := k0_pay119 v95 v97 k0_pay113
  let v139 := k0_pay120 v95
  let v162 := k0_pay121 v71 v79 v87 v124 v129 v134 v139
  let v175 := k0_pay124 v71 v79 v87 v124 v129 v134 v139 hi
  let v220 := k0_pay128 v111 v119 v162 v175
  k0_pay12 (newLo3 lo a0 a1) (k0_pay134 v71 v79 v87 v95 v103 v162 v220 k0_pay129)
    (k0_pay135 v71 v79 v87 v95 v103 v162 (newLw3 lw a0 a1) v220 k0_pay129) k0_pay136

/-- What the first chunk of phase `p` stores before counting. -/
def reset (p : ℕ) (s : St F) : St F :=
  match p with
  | 0 => { s with lo := k0_pay37, hi := k0_pay38, lw := k0_pay39, acc0 := k0_pay40, acc1 := k0_pay41 }
  | 1 => { s with acc0 := k0_pay70, acc1 := k0_pay71 }
  | 2 => { s with acc0 := k0_pay100, acc1 := k0_pay101 }
  | 3 => { s with acc0 := k0_pay137, acc1 := k0_pay138 }
  | _ => { s with numa := k0_pay146, dena := k0_pay147, numl := k0_pay148, denl := k0_pay149, cnta := k0_pay150, cntl := k0_pay151 }

/-- The reset on a phase's first chunk, nothing otherwise. -/
def seed (p c : ℕ) (s : St F) : St F := if c = 0 then reset p s else s

/-- One chunk of scores `g` (weights `r`, values `v`) taken into the state in phase `p`. -/
def tally (p : ℕ) (g : FVec F S512x2048 .f32) (r v : Vec F S1x2048 .f32) (s : St F) : St F :=
  match p with
  | 0 => { s with acc0 := k0_pay46 g s.lo s.acc0, acc1 := k0_pay47 g s.lo s.acc1 }
  | 1 => { s with acc0 := k0_pay76 g s.lo s.acc0, acc1 := k0_pay77 g s.lo s.acc1 }
  | 2 => { s with acc0 := k0_pay106 g s.lo s.acc0, acc1 := k0_pay107 g s.lo s.acc1 }
  | 3 => { s with acc0 := k0_pay143 g s.lo s.acc0, acc1 := k0_pay144 g s.lo s.acc1 }
  | _ => { s with
      numa := k0_pay155 g r v s.ta s.tb s.numa
      dena := k0_pay156 g r s.ta s.tb s.dena
      numl := k0_pay157 (k0_pay152 v) (k0_pay153 g r s.tb) s.numl
      denl := k0_pay158 (k0_pay153 g r s.tb) s.denl
      cnta := k0_pay159 g s.ta s.cnta
      cntl := k0_pay13 s.cntl (k0_pay160 g s.tb) }

/-- The end of phase `p`: the interval's new lower end and the counts at its ends, and after phase 3 the two thresholds. -/
def finish (p : ℕ) (s : St F) : St F :=
  match p with
  | 0 => { s with
      lo := k0_pay2 (newLo0 s.lo s.acc0 s.acc1)
      hi := newHi0 s.hi s.acc0 s.acc1
      lw := k0_pay4 (newLw0 s.lw s.acc0 s.acc1) }
  | 1 => { s with
      lo := k0_pay5 (newLo1 s.lo s.acc0 s.acc1)
      hi := newHi1 s.hi s.acc0 s.acc1
      lw := k0_pay7 (newLw1 s.lw s.acc0 s.acc1) }
  | 2 => { s with
      lo := k0_pay8 (newLo2 s.lo s.acc0 s.acc1)
      hi := newHi2 s.hi s.acc0 s.acc1
      lw := k0_pay10 (newLw2 s.lw s.acc0 s.acc1) }
  | 3 => { s with
      lo := k0_pay131 (newLo3 s.lo s.acc0 s.acc1)
      hi := newHi3 s.hi s.acc0 s.acc1
      lw := k0_pay133 (newLw3 s.lw s.acc0 s.acc1)
      tb := k0_pay11 (newLo3 s.lo s.acc0 s.acc1)
      ta := newTa s.lo s.hi s.lw s.acc0 s.acc1 }
  | _ => s

/-- The phase's end on its last chunk, nothing otherwise. -/
def close (p c : ℕ) (s : St F) : St F := if c = 48 then finish p s else s

/-- One grid point: seed, tally, close. -/
def step (p c : ℕ) (g : FVec F S512x2048 .f32) (r v : Vec F S1x2048 .f32) (s : St F) : St F :=
  close p c (tally p g r v (seed p c s))

/-- The result a state's sums give: what the last chunk of the last phase writes. -/
def outCol (s : St F) : Col F := k0_pay14 s.cnta s.cntl s.numl s.numa s.denl s.dena s.numa s.dena

/-- What the output block holds after a grid point: the result on the last point of a row block, else what it held. -/
def outAt (p c : ℕ) (s : St F) (X : Col F) : Col F := if p = 4 then if c = 48 then outCol s else X else X

end Cert.KernelIdeal.Hand

end
-- ==== Proof.KernelIdeal.Triple.lean ====
module

public import proofs.«01_k».proof.Proof.Gen.KernelIdeal.Frame
public import proofs.«01_k».proof.Proof.KernelIdeal.Step
public import Idealize.ShloMosaic.Lib.Pipeline.Frame
public import Idealize.ShloMosaic.Lib.Pipeline.FrameBody
public import Idealize.ShloMosaic.Lib.Tactic
public import Idealize.ShloMosaic.Lib.VecWindow

@[expose] public section

/-! # The kernel's body run at one grid point

For each of the five phases: from the five input blocks, the output block and the scratch buffers at a state `s`,
the body runs to its return and leaves the scratch at `step … s` and the output block at `outAt …`. The chunk is
the first, the last or another one: three runs in each phase. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A comparison of a small number with a literal, as the kernel tests it. -/
theorem cond_iff {a k : ℕ} (ha : a < 100) (hk : k < 100) :
    Scalar.cmpi .ne (Scalar.extui (Scalar.cmpi .eq (BitVec.ofNat 32 a) (BitVec.ofNat 32 k))) 0#32 = 1#1 ↔ a = k := by
  interval_cases k <;> (revert a; decide)

/-- Reading back a whole stored vector of 32-bit words. -/
theorem cov_i32 (v : View sig .tc .vmem S512x2048 .i32) (inb inb' : ∀ a, (![0, 0] : Fin 2 → ℕ) a + S512x2048.size a ≤ S512x2048.size a)
    (w : S512x2048.Idx → Elt F .i32) (L : List (View.Piece (Elt F) S512x2048 .i32)) :
    v.readCov (Val := Elt F) (⟨Rect.unit (s := S512x2048) ![0, 0] S512x2048.size inb', w⟩ :: L) (Rect.unit (s := S512x2048) ![0, 0] S512x2048.size inb).toLoadRect
       = w := by
  exact View.readCov_full v inb inb' w L
theorem writes_i32 (v : View sig .tc .vmem S512x2048 .i32) (f : v.ty.Contents (Elt F)) (inb : ∀ a, (![0, 0] : Fin 2 → ℕ) a + S512x2048.size a ≤ S512x2048.size a)
    (w : S512x2048.Idx → Elt F .i32) (L : List (View.Piece (Elt F) S512x2048 .i32)) :
    v.read (Elt F) (v.writes (Elt F) f (⟨Rect.unit (s := S512x2048) ![0, 0] S512x2048.size inb, w⟩ :: L)) = w := by
  exact View.read_writes_full v f inb w L
theorem load_i32 (v : View sig .tc .vmem S512x2048 .i32) (f : v.ty.Contents (Elt F)) (inb : ∀ a, (![0, 0] : Fin 2 → ℕ) a + S512x2048.size a ≤ S512x2048.size a) :
    v.readAt (Elt F) (Rect.unit (s := S512x2048) ![0, 0] S512x2048.size inb).toLoadRect f = v.read (Elt F) f := by
  exact View.readAt_full v f inb
theorem load_writes_i32 (v : View sig .tc .vmem S512x2048 .i32) (f : v.ty.Contents (Elt F)) (inb inb' : ∀ a, (![0, 0] : Fin 2 → ℕ) a + S512x2048.size a ≤ S512x2048.size a)
    (w : S512x2048.Idx → Elt F .i32) (L : List (View.Piece (Elt F) S512x2048 .i32)) :
    v.readAt (Elt F) (Rect.unit (s := S512x2048) ![0, 0] S512x2048.size inb).toLoadRect (v.writes (Elt F) f (⟨Rect.unit (s := S512x2048) ![0, 0] S512x2048.size inb', w⟩ :: L)) = w := by
  exact View.readAt_writes_full v f inb inb' w L

/-- The same for a column of floats. -/
theorem cov_col (v : View sig .tc .vmem S512x1 .f32) (inb inb' : ∀ a, (![0, 0] : Fin 2 → ℕ) a + S512x1.size a ≤ S512x1.size a)
    (w : S512x1.Idx → Elt F .f32) (L : List (View.Piece (Elt F) S512x1 .f32)) :
    v.readCov (Val := Elt F) (⟨Rect.unit (s := S512x1) ![0, 0] S512x1.size inb', w⟩ :: L) (Rect.unit (s := S512x1) ![0, 0] S512x1.size inb).toLoadRect
       = w := by
  exact View.readCov_full v inb inb' w L
theorem writes_col (v : View sig .tc .vmem S512x1 .f32) (f : v.ty.Contents (Elt F)) (inb : ∀ a, (![0, 0] : Fin 2 → ℕ) a + S512x1.size a ≤ S512x1.size a)
    (w : S512x1.Idx → Elt F .f32) (L : List (View.Piece (Elt F) S512x1 .f32)) :
    v.read (Elt F) (v.writes (Elt F) f (⟨Rect.unit (s := S512x1) ![0, 0] S512x1.size inb, w⟩ :: L)) = w := by
  exact View.read_writes_full v f inb w L
theorem load_col (v : View sig .tc .vmem S512x1 .f32) (f : v.ty.Contents (Elt F)) (inb : ∀ a, (![0, 0] : Fin 2 → ℕ) a + S512x1.size a ≤ S512x1.size a) :
    v.readAt (Elt F) (Rect.unit (s := S512x1) ![0, 0] S512x1.size inb).toLoadRect f = v.read (Elt F) f := by
  exact View.readAt_full v f inb

/-- The thirteen scratch buffers owned at the state. -/
def scr (c : Dev nD) (s : St F) : sProp 𝕄 :=
  iprop(owns (c : Thread nD τ) (Memref.whole cc0_scratch0) fullShare s.lo
    ∗ owns (c : Thread nD τ) (Memref.whole cc0_scratch1) fullShare s.hi
    ∗ owns (c : Thread nD τ) (Memref.whole cc0_scratch2) fullShare s.lw
    ∗ owns (c : Thread nD τ) (Memref.whole cc0_scratch3) fullShare s.ta
    ∗ owns (c : Thread nD τ) (Memref.whole cc0_scratch4) fullShare s.tb
    ∗ owns (c : Thread nD τ) (Memref.whole cc0_scratch5) fullShare s.acc0
    ∗ owns (c : Thread nD τ) (Memref.whole cc0_scratch6) fullShare s.acc1
    ∗ owns (c : Thread nD τ) (Memref.whole cc0_scratch7) fullShare s.numa
    ∗ owns (c : Thread nD τ) (Memref.whole cc0_scratch8) fullShare s.dena
    ∗ owns (c : Thread nD τ) (Memref.whole cc0_scratch9) fullShare s.numl
    ∗ owns (c : Thread nD τ) (Memref.whole cc0_scratch10) fullShare s.denl
    ∗ owns (c : Thread nD τ) (Memref.whole cc0_scratch11) fullShare s.cnta
    ∗ owns (c : Thread nD τ) (Memref.whole cc0_scratch12) fullShare s.cntl)

/-- The five input blocks owned at given contents. -/
def ins (c : Dev nD) (arg3 : Memref sig .tc .vmem S512x64 .f32) (arg4 : Memref sig .tc .vmem S2048x64 .f32)
    (arg5 arg6 arg7 : Memref sig .tc .vmem S1x2048 .f32) (X3 : Vec F S512x64 .f32) (X4 : Vec F S2048x64 .f32)
    (X5 X6 X7 : Vec F S1x2048 .f32) : sProp 𝕄 :=
  iprop(owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7)

/-- The body's triple at phase `p` and chunk `n`, for any continuation. -/
def Runs (c : Dev nD) (i : grid0.Coords) (p n : ℕ) : Prop :=
  ∀ (arg3 : Memref sig .tc .vmem S512x64 .f32) (harg3 : arg3.IsWhole)
    (arg4 : Memref sig .tc .vmem S2048x64 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x1 .f32) (harg8 : arg8.IsWhole)
    (X3 : Vec F S512x64 .f32) (X4 : Vec F S2048x64 .f32) (X5 X6 X7 : Vec F S1x2048 .f32) (X8 : Col F) (s : St F) (K : PUnit → sProp 𝕄),
    iprop(ins c arg3 arg4 arg5 arg6 arg7 X3 X4 X5 X6 X7 ∗ owns (c : Thread nD τ) arg8 fullShare X8 ∗ scr c s
        ∗ (iprop(ins c arg3 arg4 arg5 arg6 arg7 X3 X4 X5 X6 X7
            ∗ owns (c : Thread nD τ) arg8 fullShare (outAt p n (step p n (k0_pay1 X3 X4 X5) X6 X7 s) X8)
            ∗ scr c (step p n (k0_pay1 X3 X4 X5) X6 X7 s)) -∗ K ⟨⟩))
      ⊢ wp frame (wpE (defs₀ (F := F)) Variants.none c none) Set.univ
        (cc0__body i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) K

end Cert.KernelIdeal.Hand

end
-- ==== Proof.KernelIdeal.RunFirst.lean ====
module

public import proofs.«01_k».proof.Proof.KernelIdeal.Triple
public import Idealize.ShloMosaic.Lib.Pipeline.Frame
public import Idealize.ShloMosaic.Lib.Pipeline.FrameBody
public import Idealize.ShloMosaic.Lib.Tactic
public import Idealize.ShloMosaic.Lib.VecWindow

@[expose] public section

/-! # The body run at a grid point

The body's conditions are decided by the phase and by whether the chunk is the first, the last or another one:
fifteen runs, closed alike. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- On a phase's first chunk: the scratch takes one `step`, the output block is `outAt`. -/
theorem runs_first (c : Dev nD) (i : grid0.Coords) {p : ℕ} (h1 : (i 1).val = p) (h2 : (i 2).val = 0) : Runs (F := F) c i p 0 := by
  intro arg3 harg3 arg4 harg4 arg5 harg5 arg6 harg6 arg7 harg7 arg8 harg8 X3 X4 X5 X6 X7 X8 s K
  have hp : p < 5 := h1 ▸ (i 1).isLt
  rw [cc0__body_eq_skeleton]; unfold cc0__body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  have c13 : k0_cond13 i = 1#1 ↔ p = 4 := by unfold k0_cond13; rw [h1]; exact cond_iff (by omega) (by omega)
  have c15 : k0_cond15 i = 1#1 ↔ 0 = 48 := by unfold k0_cond15; rw [h2]; exact cond_iff (by omega) (by omega)
  have c0 := cond_iff (a := 0) (k := 0) (by omega) (by omega)
  have c48 := cond_iff (a := 0) (k := 48) (by omega) (by omega)
  simp only [h1, h2]
  clear h1 h2
  unfold ins scr owns
  iintro ⟨⟨⟨%f3, %h3, H3⟩, ⟨%f4, %h4, H4⟩, ⟨%f5, %h5, H5⟩, ⟨%f6, %h6, H6⟩, ⟨%f7, %h7, H7⟩⟩, ⟨%f8, %h8, H8⟩,
    ⟨⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, Hk⟩
  have q0 : True := trivial
  have q48 : ¬ (0:ℕ) = 48 := by decide
  all_goals rcases (by omega : p = 4 ∨ p < 4) with rfl | q4
  all_goals first
    | (have q13 := c13.2 rfl; have q4 : True := trivial)
    | (have q13 := mt c13.1 q4.ne; replace q4 := q4.ne; interval_cases p <;> first | exact absurd rfl q4 | skip)
  all_goals
    sl_exec (disch := first | decide | exact q13 | (rw [c15]; decide))
    sl_step
    iapply Hk
    isplitl [H3 H4 H5 H6 H7]
    · isplitl [H3]; (· iexists f3; isplitr; (· ipureintro; exact h3); iexact H3)
      isplitl [H4]; (· iexists f4; isplitr; (· ipureintro; exact h4); iexact H4)
      isplitl [H5]; (· iexists f5; isplitr; (· ipureintro; exact h5); iexact H5)
      isplitl [H6]; (· iexists f6; isplitr; (· ipureintro; exact h6); iexact H6)
      iexists f7; isplitr; (· ipureintro; exact h7); iexact H7
    isplitl [H8]
    · iexists _; isplitr; swap; (· iexact H8)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H9]
    · iexists _; isplitr; swap; (· iexact H9)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H10]
    · iexists _; isplitr; swap; (· iexact H10)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H11]
    · iexists _; isplitr; swap; (· iexact H11)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H12]
    · iexists _; isplitr; swap; (· iexact H12)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H13]
    · iexists _; isplitr; swap; (· iexact H13)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H14]
    · iexists _; isplitr; swap; (· iexact H14)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H15]
    · iexists _; isplitr; swap; (· iexact H15)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H16]
    · iexists _; isplitr; swap; (· iexact H16)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H17]
    · iexists _; isplitr; swap; (· iexact H17)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H18]
    · iexists _; isplitr; swap; (· iexact H18)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H19]
    · iexists _; isplitr; swap; (· iexact H19)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H20]
    · iexists _; isplitr; swap; (· iexact H20)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    iexists _; isplitr; swap; (· iexact H21)
    ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])

end Cert.KernelIdeal.Hand

end
-- ==== Proof.KernelIdeal.RunMid.lean ====
module

public import proofs.«01_k».proof.Proof.KernelIdeal.Triple
public import Idealize.ShloMosaic.Lib.Pipeline.Frame
public import Idealize.ShloMosaic.Lib.Pipeline.FrameBody
public import Idealize.ShloMosaic.Lib.Tactic
public import Idealize.ShloMosaic.Lib.VecWindow

@[expose] public section

/-! # The body run at a grid point

The body's conditions are decided by the phase and by whether the chunk is the first, the last or another one:
fifteen runs, closed alike. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- On a phase's other chunks: the scratch takes one `step`, the output block is `outAt`. -/
theorem runs_mid (c : Dev nD) (i : grid0.Coords) {p n : ℕ} (h1 : (i 1).val = p) (h2 : (i 2).val = n)
    (q0 : n ≠ 0) (q48 : n ≠ 48) : Runs (F := F) c i p n := by
  intro arg3 harg3 arg4 harg4 arg5 harg5 arg6 harg6 arg7 harg7 arg8 harg8 X3 X4 X5 X6 X7 X8 s K
  have hp : p < 5 := h1 ▸ (i 1).isLt
  have hn : n < 49 := h2 ▸ (i 2).isLt
  rw [cc0__body_eq_skeleton]; unfold cc0__body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  have c13 : k0_cond13 i = 1#1 ↔ p = 4 := by unfold k0_cond13; rw [h1]; exact cond_iff (by omega) (by omega)
  have c15 : k0_cond15 i = 1#1 ↔ n = 48 := by unfold k0_cond15; rw [h2]; exact cond_iff (by omega) (by omega)
  have c0 := cond_iff (a := n) (k := 0) (by omega) (by omega)
  have c48 := cond_iff (a := n) (k := 48) (by omega) (by omega)
  simp only [h1, h2]
  clear h1 h2
  unfold ins scr owns
  iintro ⟨⟨⟨%f3, %h3, H3⟩, ⟨%f4, %h4, H4⟩, ⟨%f5, %h5, H5⟩, ⟨%f6, %h6, H6⟩, ⟨%f7, %h7, H7⟩⟩, ⟨%f8, %h8, H8⟩,
    ⟨⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, Hk⟩
  replace c0 := mt c0.1 q0; replace c48 := mt c48.1 q48; replace c15 := mt c15.1 q48
  all_goals rcases (by omega : p = 4 ∨ p < 4) with rfl | q4
  all_goals first
    | (have q13 := c13.2 rfl; have q4 : True := trivial)
    | (have q13 := mt c13.1 q4.ne; replace q4 := q4.ne; interval_cases p <;> first | exact absurd rfl q4 | skip)
  all_goals
    sl_exec (disch := first | decide | exact q13 | (rw [c15]; decide))
    sl_step
    iapply Hk
    isplitl [H3 H4 H5 H6 H7]
    · isplitl [H3]; (· iexists f3; isplitr; (· ipureintro; exact h3); iexact H3)
      isplitl [H4]; (· iexists f4; isplitr; (· ipureintro; exact h4); iexact H4)
      isplitl [H5]; (· iexists f5; isplitr; (· ipureintro; exact h5); iexact H5)
      isplitl [H6]; (· iexists f6; isplitr; (· ipureintro; exact h6); iexact H6)
      iexists f7; isplitr; (· ipureintro; exact h7); iexact H7
    isplitl [H8]
    · iexists _; isplitr; swap; (· iexact H8)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H9]
    · iexists _; isplitr; swap; (· iexact H9)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H10]
    · iexists _; isplitr; swap; (· iexact H10)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H11]
    · iexists _; isplitr; swap; (· iexact H11)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H12]
    · iexists _; isplitr; swap; (· iexact H12)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H13]
    · iexists _; isplitr; swap; (· iexact H13)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H14]
    · iexists _; isplitr; swap; (· iexact H14)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H15]
    · iexists _; isplitr; swap; (· iexact H15)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H16]
    · iexists _; isplitr; swap; (· iexact H16)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H17]
    · iexists _; isplitr; swap; (· iexact H17)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H18]
    · iexists _; isplitr; swap; (· iexact H18)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H19]
    · iexists _; isplitr; swap; (· iexact H19)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H20]
    · iexists _; isplitr; swap; (· iexact H20)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    iexists _; isplitr; swap; (· iexact H21)
    ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])

end Cert.KernelIdeal.Hand

end
-- ==== Proof.KernelIdeal.RunLast.lean ====
module

public import proofs.«01_k».proof.Proof.KernelIdeal.Triple
public import Idealize.ShloMosaic.Lib.Pipeline.Frame
public import Idealize.ShloMosaic.Lib.Pipeline.FrameBody
public import Idealize.ShloMosaic.Lib.Tactic
public import Idealize.ShloMosaic.Lib.VecWindow

@[expose] public section

/-! # The body run at a grid point

The body's conditions are decided by the phase and by whether the chunk is the first, the last or another one:
fifteen runs, closed alike. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- On a phase's last chunk: the scratch takes one `step`, the output block is `outAt`. -/
theorem runs_last (c : Dev nD) (i : grid0.Coords) {p : ℕ} (h1 : (i 1).val = p) (h2 : (i 2).val = 48) : Runs (F := F) c i p 48 := by
  intro arg3 harg3 arg4 harg4 arg5 harg5 arg6 harg6 arg7 harg7 arg8 harg8 X3 X4 X5 X6 X7 X8 s K
  have hp : p < 5 := h1 ▸ (i 1).isLt
  rw [cc0__body_eq_skeleton]; unfold cc0__body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  have c13 : k0_cond13 i = 1#1 ↔ p = 4 := by unfold k0_cond13; rw [h1]; exact cond_iff (by omega) (by omega)
  have c15 : k0_cond15 i = 1#1 ↔ 48 = 48 := by unfold k0_cond15; rw [h2]; exact cond_iff (by omega) (by omega)
  have c0 := cond_iff (a := 48) (k := 0) (by omega) (by omega)
  have c48 := cond_iff (a := 48) (k := 48) (by omega) (by omega)
  simp only [h1, h2]
  clear h1 h2
  unfold ins scr owns
  iintro ⟨⟨⟨%f3, %h3, H3⟩, ⟨%f4, %h4, H4⟩, ⟨%f5, %h5, H5⟩, ⟨%f6, %h6, H6⟩, ⟨%f7, %h7, H7⟩⟩, ⟨%f8, %h8, H8⟩,
    ⟨⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, Hk⟩
  have q0 : ¬ (48:ℕ) = 0 := by decide
  have q48 : True := trivial
  have q15 : k0_cond15 i = 1#1 := c15.2 rfl
  all_goals rcases (by omega : p = 4 ∨ p < 4) with rfl | q4
  all_goals first
    | (have q13 := c13.2 rfl; have q4 : True := trivial)
    | (have q13 := mt c13.1 q4.ne; replace q4 := q4.ne; interval_cases p <;> first | exact absurd rfl q4 | skip)
  all_goals
    sl_exec (disch := first | decide | exact q13 | exact q15)
    sl_step
    iapply Hk
    isplitl [H3 H4 H5 H6 H7]
    · isplitl [H3]; (· iexists f3; isplitr; (· ipureintro; exact h3); iexact H3)
      isplitl [H4]; (· iexists f4; isplitr; (· ipureintro; exact h4); iexact H4)
      isplitl [H5]; (· iexists f5; isplitr; (· ipureintro; exact h5); iexact H5)
      isplitl [H6]; (· iexists f6; isplitr; (· ipureintro; exact h6); iexact H6)
      iexists f7; isplitr; (· ipureintro; exact h7); iexact H7
    isplitl [H8]
    · iexists _; isplitr; swap; (· iexact H8)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H9]
    · iexists _; isplitr; swap; (· iexact H9)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H10]
    · iexists _; isplitr; swap; (· iexact H10)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H11]
    · iexists _; isplitr; swap; (· iexact H11)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H12]
    · iexists _; isplitr; swap; (· iexact H12)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H13]
    · iexists _; isplitr; swap; (· iexact H13)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H14]
    · iexists _; isplitr; swap; (· iexact H14)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H15]
    · iexists _; isplitr; swap; (· iexact H15)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H16]
    · iexists _; isplitr; swap; (· iexact H16)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H17]
    · iexists _; isplitr; swap; (· iexact H17)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H18]
    · iexists _; isplitr; swap; (· iexact H18)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H19]
    · iexists _; isplitr; swap; (· iexact H19)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    isplitl [H20]
    · iexists _; isplitr; swap; (· iexact H20)
      ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])
    iexists _; isplitr; swap; (· iexact H21)
    ipureintro; sl_unfold_run_names; (repeat first | rw [cov_i32] | rw [writes_i32] | rw [load_writes_i32] | rw [load_i32]); (try rw [h14]); (try rw [h15]); simp only [step, seed, reset, tally, close, finish, outAt, outCol, newTa, newLw0, newLw1, newLw2, newLw3, newHi0, newHi1, newHi2, newHi3, newLo0, newLo1, newLo2, newLo3, q0, q48, q4, q13, q15, eq_self, dite_true, dite_false, if_true, if_false, View.readAt_full, View.read_writes_full, View.readAt_writes_full, View.readCov_full, h3, h4, h5, h6, h7, h8, h9, h10, h11, h12, h13, h14, h15, h16, h17, h18, h19, h20, h21] <;> (repeat first | rw [load_col] | rw [cov_col] | rw [writes_col] | rw [View.readAt_full]) <;> (repeat first | rw [h3] | rw [h4] | rw [h5] | rw [h9] | rw [h10] | rw [h11] | rw [h12] | rw [h13] | rw [h14] | rw [h15] | rw [h6] | rw [h7] | rw [h16] | rw [h17] | rw [h18] | rw [h19] | rw [h20] | rw [h21])

end Cert.KernelIdeal.Hand

end
-- ==== Proof.KernelIdeal.Run.lean ====
module

public import proofs.«01_k».proof.Proof.KernelIdeal.RunFirst
public import proofs.«01_k».proof.Proof.KernelIdeal.RunMid
public import proofs.«01_k».proof.Proof.KernelIdeal.RunLast
public import Idealize.ShloMosaic.Lib.Pipeline.Frame
public import Idealize.ShloMosaic.Lib.Pipeline.FrameBody
public import Idealize.ShloMosaic.Lib.Tactic
public import Idealize.ShloMosaic.Lib.VecWindow

@[expose] public section

/-! # The body run at a grid point

The body's conditions are decided by the phase and by whether the chunk is the first, the last or another one:
fifteen runs, closed alike. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at any grid point: the scratch takes one `step`, the output block is `outAt`. -/
theorem runs (c : Dev nD) (i : grid0.Coords) {p n : ℕ} (h1 : (i 1).val = p) (h2 : (i 2).val = n) : Runs (F := F) c i p n := by
  rcases (by omega : n = 0 ∨ n = 48 ∨ n ≠ 0 ∧ n ≠ 48) with rfl | rfl | ⟨q0, q48⟩
  · exact runs_first c i h1 h2
  · exact runs_last c i h1 h2
  · exact runs_mid c i h1 h2 q0 q48

end Cert.KernelIdeal.Hand

end
-- ==== Proof.KernelIdeal.Loop.lean ====
module

public import proofs.«01_k».proof.Proof.KernelIdeal.Run
public import proofs.«01_k».proof.Proof.Gen.KernelIdeal.Frame
public import proofs.«01_k».proof.Proof.Gen.KernelIdeal.Points
public import Idealize.ShloMosaic.Lib.Pipeline.Kit

@[expose] public section

/-! # The grid's run with a property of the scratch carried from point to point

A plan names what the scratch satisfies before every grid point and what the output block satisfies where it is
written back. Every execution then ends with each block of the result as the plan says. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks at a grid point. -/
def blk0 (c : Dev nD) (t : Fin cfg0.N) : Vec F S512x64 .f32 := iblk m c 0 t
def blk1 (c : Dev nD) (t : Fin cfg0.N) : Vec F S2048x64 .f32 := iblk m c 1 t
def blk2 (c : Dev nD) (t : Fin cfg0.N) : Vec F S1x2048 .f32 := iblk m c 2 t
def blk3 (c : Dev nD) (t : Fin cfg0.N) : Vec F S1x2048 .f32 := iblk m c 3 t
def blk4 (c : Dev nD) (t : Fin cfg0.N) : Vec F S1x2048 .f32 := iblk m c 4 t

/-- The scratch after grid point `t`. -/
def stepAt (c : Dev nD) (t : Fin cfg0.N) (s : St F) : St F :=
  step (t.val / 49 % 5) (t.val % 49) (k0_pay1 (blk0 m c t) (blk1 m c t) (blk2 m c t)) (blk3 m c t) (blk4 m c t) s

/-- What the scratch satisfies before each point, and the result block where it is written back. -/
structure Plan where
  P : Dev nD → ℕ → St F → Prop
  O : Dev nD → Fin cfg0.N → Col F → Prop
  start : ∀ c s, P c 0 s
  next : ∀ c t s, P c t.val s → P c (t.val + 1) (stepAt m c t s)
  out : ∀ c t s, P c t.val s → t.val % 245 = 244 → O c t (outCol (stepAt m c t s))

variable {m} (pl : Plan m)

/-- An input block is kept; the result block satisfies the plan where it is written back. -/
def after0 (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, t, _, X => t.val % 245 = 244 → pl.O c t X

/-- The proof data: the scratch at some contents that satisfy the plan. -/
def rdats (c : Dev nD) : RDat τ (Elt F) Unit ℕ (UR sig nD τ) ℕ cfg0 c where
  A w := V m c (Pipeline.arrRef spec0 w)
  after w t := after0 pl c w t
  Φ t := iprop((∃ s, ⌜pl.P c t.val s⌝ ∗ scr c s) ∗ ∃ r, prngReg c r)
  q _ := fullShare
  owed _ := 0

theorem finds0 [∀ e, Nonempty (Elt F e)] (c : Dev nD) (t : Fin cfg0.N) (Y) (h : (rdats pl c).Finds 0 t Y) : Y = blk0 m c t := by
  obtain ⟨d, rfl⟩ := (rdats pl c).finds_in_eq_fetched 0 rfl (fun _ _ _ => rfl) (fun t Y X h => h) t Y h
  rfl
theorem finds1 [∀ e, Nonempty (Elt F e)] (c : Dev nD) (t : Fin cfg0.N) (Y) (h : (rdats pl c).Finds 1 t Y) : Y = blk1 m c t := by
  obtain ⟨d, rfl⟩ := (rdats pl c).finds_in_eq_fetched 1 rfl (fun _ _ _ => rfl) (fun t Y X h => h) t Y h
  rfl
theorem finds2 [∀ e, Nonempty (Elt F e)] (c : Dev nD) (t : Fin cfg0.N) (Y) (h : (rdats pl c).Finds 2 t Y) : Y = blk2 m c t := by
  obtain ⟨d, rfl⟩ := (rdats pl c).finds_in_eq_fetched 2 rfl (fun _ _ _ => rfl) (fun t Y X h => h) t Y h
  rfl
theorem finds3 [∀ e, Nonempty (Elt F e)] (c : Dev nD) (t : Fin cfg0.N) (Y) (h : (rdats pl c).Finds 3 t Y) : Y = blk3 m c t := by
  obtain ⟨d, rfl⟩ := (rdats pl c).finds_in_eq_fetched 3 rfl (fun _ _ _ => rfl) (fun t Y X h => h) t Y h
  rfl
theorem finds4 [∀ e, Nonempty (Elt F e)] (c : Dev nD) (t : Fin cfg0.N) (Y) (h : (rdats pl c).Finds 4 t Y) : Y = blk4 m c t := by
  obtain ⟨d, rfl⟩ := (rdats pl c).finds_in_eq_fetched 4 rfl (fun _ _ _ => rfl) (fun t Y X h => h) t Y h
  rfl

abbrev ms0_0 (t : Fin cfg0.N) : Memref sig .tc .vmem S512x64 .f32 := win0_0.stage (cfg0.slots t 0)
abbrev ms0_1 (t : Fin cfg0.N) : Memref sig .tc .vmem S2048x64 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S512x1 .f32 := win0_5.stage (cfg0.slots t 5)

/-- What the body is called with: the input blocks, the result block at `X8`. -/
def bodyPre (c : Dev nD) (t : Fin cfg0.N) (X8 : Col F) : sProp 𝕄 :=
  iprop((rdats pl c).Φ t.castSucc ∗ (rdats pl c).owesAt () t.castSucc
    ∗ owns (c : Thread nD τ) (ms0_0 t) fullShare (blk0 m c t)
    ∗ owns (c : Thread nD τ) (ms0_1 t) fullShare (blk1 m c t)
    ∗ owns (c : Thread nD τ) (ms0_2 t) fullShare (blk2 m c t)
    ∗ owns (c : Thread nD τ) (ms0_3 t) fullShare (blk3 m c t)
    ∗ owns (c : Thread nD τ) (ms0_4 t) fullShare (blk4 m c t)
    ∗ owns (c : Thread nD τ) (ms0_5 t) fullShare X8)

/-- What it returns: the input blocks kept, the result block as the plan says where it is written back. -/
def bodyPost (c : Dev nD) (t : Fin cfg0.N) (X8 : Col F) : sProp 𝕄 :=
  iprop((rdats pl c).Φ t.succ ∗ (rdats pl c).owesAt () t.succ
    ∗ (∃ X, ⌜after0 pl c 0 t (blk0 m c t) X⌝ ∗ owns (c : Thread nD τ) (ms0_0 t) fullShare X)
    ∗ (∃ X, ⌜after0 pl c 1 t (blk1 m c t) X⌝ ∗ owns (c : Thread nD τ) (ms0_1 t) fullShare X)
    ∗ (∃ X, ⌜after0 pl c 2 t (blk2 m c t) X⌝ ∗ owns (c : Thread nD τ) (ms0_2 t) fullShare X)
    ∗ (∃ X, ⌜after0 pl c 3 t (blk3 m c t) X⌝ ∗ owns (c : Thread nD τ) (ms0_3 t) fullShare X)
    ∗ (∃ X, ⌜after0 pl c 4 t (blk4 m c t) X⌝ ∗ owns (c : Thread nD τ) (ms0_4 t) fullShare X)
    ∗ (∃ X, ⌜after0 pl c 5 t X8 X⌝ ∗ owns (c : Thread nD τ) (ms0_5 t) fullShare X))

theorem coord1 (t : Fin cfg0.N) : (grid0.coords t 1).val = t.val / 49 % 5 := Pipeline.Grid.coords_val t 1 (by decide) rfl
theorem coord2 (t : Fin cfg0.N) : (grid0.coords t 2).val = t.val % 49 := by
  rw [Pipeline.Grid.coords_val (G := grid0) t 2 (S := 1) (B := 49) (by decide) rfl, Nat.div_one]

theorem sound_body (c : Dev nD) (t : Fin cfg0.N) (X8 : Col F) :
    bodyPre pl c t X8 ⊢ wp frame (wpE (defs₀ (F := F)) Variants.none c none) Set.univ (bodyAt0 t) (fun _ => bodyPost pl c t X8) := by
  unfold bodyPre bodyPost bodyAt0
  rw [show (rdats pl c).owesAt () t.succ = (rdats pl c).owesAt () t.castSucc from rfl,
    show (rdats pl c).Φ t.castSucc = iprop((∃ s, ⌜pl.P c t.val s⌝ ∗ scr c s) ∗ ∃ r, prngReg c r) from rfl,
    show (rdats pl c).Φ t.succ = iprop((∃ s, ⌜pl.P c (t.val + 1) s⌝ ∗ scr c s) ∗ ∃ r, prngReg c r) from rfl]
  iintro ⟨⟨⟨%s, %hs, HS⟩, Hg⟩, HO, H0, H1, H2, H3, H4, H5⟩
  iapply (runs c (grid0.coords t) (coord1 t) (coord2 t) (ms0_0 t) (hstage0_0 _) (ms0_1 t) (hstage0_1 _) (ms0_2 t) (hstage0_2 _) (ms0_3 t) (hstage0_3 _)
    (ms0_4 t) (hstage0_4 _) (ms0_5 t) (hstage0_5 _) (blk0 m c t) (blk1 m c t) (blk2 m c t) (blk3 m c t) (blk4 m c t) X8 s _)
  unfold ins
  isplitl [H0 H1 H2 H3 H4]
  · isplitl [H0]; · iexact H0
    isplitl [H1]; · iexact H1
    isplitl [H2]; · iexact H2
    isplitl [H3]; · iexact H3
    iexact H4
  isplitl [H5]; · iexact H5
  isplitl [HS]; · iexact HS
  iintro ⟨⟨H0, H1, H2, H3, H4⟩, H5, HS⟩
  isplitl [HS Hg]
  · isplitl [HS]
    · iexists (stepAt m c t s)
      isplitr
      · ipureintro; exact pl.next c t s hs
      iexact HS
    iexact Hg
  isplitl [HO]; · iexact HO
  isplitl [H0]
  · iexists (blk0 m c t); isplitr; · ipureintro; rfl
    iexact H0
  isplitl [H1]
  · iexists (blk1 m c t); isplitr; · ipureintro; rfl
    iexact H1
  isplitl [H2]
  · iexists (blk2 m c t); isplitr; · ipureintro; rfl
    iexact H2
  isplitl [H3]
  · iexists (blk3 m c t); isplitr; · ipureintro; rfl
    iexact H3
  isplitl [H4]
  · iexists (blk4 m c t); isplitr; · ipureintro; rfl
    iexact H4
  iexists (outAt (t.val / 49 % 5) (t.val % 49) (stepAt m c t s) X8)
  isplitr
  · ipureintro
    intro h
    unfold outAt
    rw [if_pos (by omega), if_pos (by omega)]
    exact pl.out c t s hs h
  iexact H5

theorem defs₀_row (t : Fin cfg0.N) : defs₀ (F := F) .tc cfg0.body (cfg0.bodyArgs t (cfg0.slots t)) = bodyAt0 t := by
  unfold defs₀; rw [Defs.onTc_tc]

theorem body_obligation [∀ e, Nonempty (Elt F e)] (c : Dev nD) :
    (rdats pl c).BodyObligation (defs₀ (F := F)) Variants.none () Set.univ := fun t Y hY => by
  rw [bigSep_W0, bigSep_W0, defs₀_row]
  rw [finds0 pl c t _ (hY 0), finds1 pl c t _ (hY 1), finds2 pl c t _ (hY 2), finds3 pl c t _ (hY 3), finds4 pl c t _ (hY 4)]
  exact triple_restated (sound_body pl c t (Y 5)) rfl .rfl fun _ => .rfl

/-- The region's own invariant: the scratch at some contents, the generator register at some state. -/
theorem PhiA_eq (c : Dev nD) : (Pipeline.ΦA spec0 c : sProp 𝕄) =
    iprop(((∃ d : Col F, owns (c : Thread nD τ) (Memref.whole cc0_scratch0) fullShare d)
    ∗ (∃ d : Col F, owns (c : Thread nD τ) (Memref.whole cc0_scratch1) fullShare d)
    ∗ (∃ d : Col F, owns (c : Thread nD τ) (Memref.whole cc0_scratch2) fullShare d)
    ∗ (∃ d : Col F, owns (c : Thread nD τ) (Memref.whole cc0_scratch3) fullShare d)
    ∗ (∃ d : Col F, owns (c : Thread nD τ) (Memref.whole cc0_scratch4) fullShare d)
    ∗ (∃ d : Vec F S512x2048 .i32, owns (c : Thread nD τ) (Memref.whole cc0_scratch5) fullShare d)
    ∗ (∃ d : Vec F S512x2048 .i32, owns (c : Thread nD τ) (Memref.whole cc0_scratch6) fullShare d)
    ∗ (∃ d : Col F, owns (c : Thread nD τ) (Memref.whole cc0_scratch7) fullShare d)
    ∗ (∃ d : Col F, owns (c : Thread nD τ) (Memref.whole cc0_scratch8) fullShare d)
    ∗ (∃ d : Col F, owns (c : Thread nD τ) (Memref.whole cc0_scratch9) fullShare d)
    ∗ (∃ d : Col F, owns (c : Thread nD τ) (Memref.whole cc0_scratch10) fullShare d)
    ∗ (∃ d : Col F, owns (c : Thread nD τ) (Memref.whole cc0_scratch11) fullShare d)
    ∗ (∃ d : Col F, owns (c : Thread nD τ) (Memref.whole cc0_scratch12) fullShare d)) ∗ ∃ r, prngReg c r) := by
  unfold Pipeline.ΦA; rw [scopedRest0_eq]; simp only [owns_whole]; rfl

theorem enter (c : Dev nD) : (Pipeline.ΦA spec0 c : sProp 𝕄) ⊢ (rdats pl c).Φ 0 := by
  rw [PhiA_eq, show (rdats pl c).Φ 0 = iprop((∃ s, ⌜pl.P c 0 s⌝ ∗ scr c s) ∗ ∃ r, prngReg c r) from rfl]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩, Hg⟩
  isplitr [Hg]
  · iexists (⟨d0, d1, d2, d3, d4, d5, d6, d7, d8, d9, d10, d11, d12⟩ : St F)
    isplitr
    · ipureintro; exact pl.start c _
    unfold scr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

theorem leave (c : Dev nD) : (rdats pl c).Φ (Fin.last cfg0.N) ⊢ (Pipeline.ΦA spec0 c : sProp 𝕄) := by
  rw [PhiA_eq, show (rdats pl c).Φ (Fin.last cfg0.N) = iprop((∃ s, ⌜pl.P c cfg0.N s⌝ ∗ scr c s) ∗ ∃ r, prngReg c r) from rfl]
  unfold scr
  iintro ⟨⟨%s, -, H0, H1, H2, H3, H4, H5, H6, H7, H8, H9, H10, H11, H12⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  iexact Hg

set_option backward.isDefEq.respectTransparency.types false in
/-- Every weakly fair execution ends, with the arrays as the plan says and every counter at zero. -/
theorem run_main [∀ e, Nonempty (Elt F e)] :
    θ_run defs (onTc (τ := τ) (main (F := F))) (s₀ m ρ)
      (fun r => RDat.FramePost (cfgs 0) (rdats pl) (V m) r ∧ r.2.sem = fun _ => 0) :=
  Pipeline.RDat.θ_run_frame_track (Q' := _) cfgs (0 : Fin 1) launch0 defs₀ Variants.none (rdats pl) m ρ main
    (hbody := fun c => body_obligation pl c) (hshare := fun c w => (by unfold RDat.share; split <;> rfl))
    (howed := fun _ _ => rfl) (V := V m) (hmain := hmain m Variants.none) (hA := fun _ _ => rfl)
    (hin := enter pl) (hout := leave pl)

variable {pl} {ρ}

/-- The arguments are unchanged. -/
theorem final_args {r : PUnit × MemSt nD τ sig (Elt F)} (h : RDat.FramePost (cfgs 0) (rdats pl) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The plan that says nothing. -/
def Plan.none (m : (ℓ : Loc nD τ sig) → Buf (Elt F) ℓ) : Plan m where
  P _ _ _ := True
  O _ _ _ := True
  start _ _ := trivial
  next _ _ _ _ := trivial
  out _ _ _ _ _ := trivial

end Cert.KernelIdeal.Hand

end
-- ==== Proof.Math.Consts.lean ====
module

public import Idealize.ShloMosaic.PureOps
public import Idealize.ShloMosaic.PureOps.Ideal.Laws
public import Idealize.ShloMosaic.Lib.IdealHost
public import Mathlib.Tactic.NormNum

@[expose] public section

/-! # The programs' constants as real numbers -/

noncomputable section

namespace Cert.Consts

open Idealize.ShloMosaic

/-- The distance of two neighbouring thresholds. -/
def cell : ℝ := 5452595 / 2 ^ 33

/-- The smallest threshold. -/
def low : ℝ := -(13421773 / 2 ^ 20)

/-- Threshold number `n`. -/
def thr (n : ℕ) : ℝ := low + n * cell

/-- The offset added to the histogram. -/
def beta : ℝ := 11258999 / 2 ^ 50

/-- The factor the gathered histogram is scaled by. -/
def alpha : ℝ := 13421773 / 2 ^ 27

theorem word_128 : Ideal.ofBits .f32 0x43000000#32 = ((128 : ℝ) : EReal) := by
  simp [Ideal.ofBits, Ideal.ieee, -EReal.coe_mul]; norm_num
theorem word_low : Ideal.ofBits .f32 0xC14CCCCD#32 = ((low : ℝ) : EReal) := by
  simp [Ideal.ofBits, Ideal.ieee, low, -EReal.coe_mul, -EReal.coe_neg]; norm_num
theorem word_cell : Ideal.ofBits .f32 0x3A266666#32 = ((cell : ℝ) : EReal) := by
  simp [Ideal.ofBits, Ideal.ieee, cell, -EReal.coe_mul]; norm_num
theorem word_step0 : Ideal.ofBits .f32 0x3EA66666#32 = ((cell * 512 : ℝ) : EReal) := by
  simp [Ideal.ofBits, Ideal.ieee, cell, -EReal.coe_mul]; norm_num
theorem word_step1 : Ideal.ofBits .f32 0x3D266666#32 = ((cell * 64 : ℝ) : EReal) := by
  simp [Ideal.ofBits, Ideal.ieee, cell, -EReal.coe_mul]; norm_num
theorem word_step2 : Ideal.ofBits .f32 0x3BA66666#32 = ((cell * 8 : ℝ) : EReal) := by
  simp [Ideal.ofBits, Ideal.ieee, cell, -EReal.coe_mul]; norm_num
theorem word_top : Ideal.ofBits .f32 0x40FFC000#32 = ((1023 / 128 : ℝ) : EReal) := by
  simp [Ideal.ofBits, Ideal.ieee, -EReal.coe_mul]; norm_num
theorem word_beta : Ideal.ofBits .f32 0x322BCC77#32 = ((beta : ℝ) : EReal) := by
  simp [Ideal.ofBits, Ideal.ieee, beta, -EReal.coe_mul]; norm_num
theorem word_alpha : Ideal.ofBits .f32 0x3DCCCCCD#32 = ((alpha : ℝ) : EReal) := by
  simp [Ideal.ofBits, Ideal.ieee, alpha, -EReal.coe_mul]; norm_num
theorem word_4095 : Ideal.ofBits .f32 0x457FF000#32 = ((4095 : ℝ) : EReal) := by
  simp [Ideal.ofBits, Ideal.ieee, -EReal.coe_mul]; norm_num
theorem word_pad : Ideal.ofBits .f32 0xC7C35000#32 = ((-100000 : ℝ) : EReal) := by
  simp [Ideal.ofBits, Ideal.ieee, -EReal.coe_mul, -EReal.coe_neg]; norm_num
theorem word_inf : Ideal.ofBits .f32 0x7F800000#32 = (⊤ : EReal) := by
  simp [Ideal.ofBits, Ideal.ieee]

theorem cell_pos : 0 < cell := by unfold cell; norm_num
theorem beta_pos : 0 < beta := by unfold beta; norm_num
theorem alpha_pos : 0 < alpha := by unfold alpha; norm_num
theorem alpha_lt : alpha < 1 := by unfold alpha; norm_num

/-- A finite sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice of reals read in the extended reals. -/
theorem coe_ite (p : Prop) [Decidable p] (a b : ℝ) : (((if p then a else b : ℝ)) : EReal) = if p then (a : EReal) else (b : EReal) := by
  split <;> rfl

end Cert.Consts

end
-- ==== Proof.KernelIdeal.Host.lean ====
module

public import proofs.«01_k».proof.Proof.Gen.KernelIdeal.Frame
public import proofs.«01_k».proof.Proof.Gen.KernelIdeal
public import Idealize.ShloMosaic.Lib.StableHlo.Run
public import proofs.«01_k».proof.Proof.Math.Consts
public import Idealize.ShloMosaic.Lib.Pointwise

@[expose] public section

/-! # The arrays the kernel's host operations hand to the launch -/

set_option maxHeartbeats 1600000

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The padded keys. -/
def keys (k : FVec F S100000x64 .f32) : FVec F S100352x64 .f32 :=
  pad S100352x64 ![0, 0] ![352, 0] ![0, 0] k (sitofp .f32 (constantI S_ 32 0#32)) pads_S100000x64_S100352x64_03520_000 h_S_

/-- A vector padded by the word zero, as one row. -/
def zeros (v : FVec F S100000 .f32) : FVec F S1x100352 .f32 :=
  shapeCast S1x100352
    (pad S100352 ![0] ![352] ![0] v (sitofp .f32 (constantI S_ 32 0#32)) pads_S100000_S100352_03520 h_S_)
    shapeCasts_S100352_S1x100352

/-- The histogram plus its offset. -/
def offset (h : FVec F S100000 .f32) : FVec F S100000 .f32 :=
  addf h (broadcastInDim S100000 ![] bcast_S_S100000 (constant S_ .f32 0x322BCC77#32))

/-- The padded logarithms of the prior, as one row. -/
def priors (h : FVec F S100000 .f32) : FVec F S1x100352 .f32 :=
  shapeCast S1x100352
    (pad S100352 ![0] ![352] ![0] (Host.log (offset h)) (constant S_ .f32 0xC7C35000#32) pads_S100000_S100352_03520 h_S_)
    shapeCasts_S100352_S1x100352

/-- The gathered prior's part of a weight over the score's. -/
def ratios (h : FVec F S100000 .f32) : FVec F S100000 .f32 :=
  Host.divf (addf (mulf (broadcastInDim S100000 ![] bcast_S_S100000 (constant S_ .f32 0x3DCCCCCD#32)) h)
    (broadcastInDim S100000 ![] bcast_S_S100000 (constant S_ .f32 0x322BCC77#32))) (offset h)

variable (m : (ℓ : Loc nD τ sig) → Buf (Elt F) ℓ) (c : Dev nD)

theorem V_keys : V m c main_v5 = keys (m ((c.tc : Thread nD τ).loc main_arg1)) := by
  show StableHlo.after (List.flatten [hostOps0, hostOps0_1, hostOps0_2, hostOps0_3, hostOps0_4, hostOps0_5, hostOps0_6, hostOps0_7, hostOps0_8]) (fun b => m (c, b)) (Proc.devRef .tc main_v5) = _
  simp only [List.flatten_cons, List.flatten_nil, List.append_nil, List.cons_append, List.nil_append]
  after_results_simp <;> rfl

theorem V_priors : V m c main_v4 = priors (m ((c.tc : Thread nD τ).loc main_arg3)) := by
  show StableHlo.after (List.flatten [hostOps0, hostOps0_1, hostOps0_2, hostOps0_3, hostOps0_4, hostOps0_5, hostOps0_6, hostOps0_7, hostOps0_8]) (fun b => m (c, b)) (Proc.devRef .tc main_v4) = _
  simp only [List.flatten_cons, List.flatten_nil, List.append_nil, List.cons_append, List.nil_append]
  after_results_simp <;> rfl

theorem V_ratios : V m c main_v14 = zeros (ratios (m ((c.tc : Thread nD τ).loc main_arg3))) := by
  show StableHlo.after (List.flatten [hostOps0, hostOps0_1, hostOps0_2, hostOps0_3, hostOps0_4, hostOps0_5, hostOps0_6, hostOps0_7, hostOps0_8]) (fun b => m (c, b)) (Proc.devRef .tc main_v14) = _
  simp only [List.flatten_cons, List.flatten_nil, List.append_nil, List.cons_append, List.nil_append]
  after_results_simp <;> rfl

theorem V_values : V m c main_v16 = zeros (m ((c.tc : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v16) = _
  simp only [List.flatten_cons, List.flatten_nil, List.append_nil, List.cons_append, List.nil_append]
  after_results_simp <;> rfl

end Cert.KernelIdeal.Host

end
-- ==== Proof.Math.Search.lean ====
module

public import Mathlib.Data.Nat.Find
public import Mathlib.Order.Monotone.Basic
public import Mathlib.Tactic.IntervalCases
public import Mathlib.Tactic.Linarith

@[expose] public section

/-! # The threshold search

A nonincreasing count `C n` is known to be at least 128 at some `n ≤ 4095`. The kernel finds the last `n ≤ 4095` with
`128 ≤ C n` by four rounds, each of which fixes three more binary digits of it: a round looks at the seven inner
division points of the current interval and moves the lower end up by as many of them as still count 128. -/

namespace Cert.Search

/-- One where the count is at least 128, zero elsewhere. -/
def ind (x : ℕ) : ℕ := if 128 ≤ x then 1 else 0

/-- The last `n ≤ 4095` whose count is at least 128. -/
def last (C : ℕ → ℕ) : ℕ := Nat.findGreatest (fun n => 128 ≤ C n) 4095

/-- The width of the cells that phase `p` divides its interval into. -/
def width (p : ℕ) : ℕ := 8 ^ (3 - p)

/-- The lower end of the interval that phase `p` starts from, for the last index `N`: `N` rounded down. -/
def base (p N : ℕ) : ℕ := 8 ^ (4 - p) * (N / 8 ^ (4 - p))

/-- How far phase `p` moves the lower end, in cells. -/
def jump (p N : ℕ) : ℕ := N / width p % 8

variable {C : ℕ → ℕ}

theorem last_le : last C ≤ 4095 := Nat.findGreatest_le _

theorem le_last_iff (hC : Antitone C) (h0 : 128 ≤ C (last C)) {m : ℕ} (hm : m ≤ 4095) :
    128 ≤ C m ↔ m ≤ last C :=
  ⟨fun h => Nat.le_findGreatest (P := fun n => 128 ≤ C n) hm h, fun h => h0.trans (hC h)⟩

theorem le_count_last {n : ℕ} (hn : n ≤ 4095) (h : 128 ≤ C n) : 128 ≤ C (last C) :=
  Nat.findGreatest_spec (P := fun n => 128 ≤ C n) hn h

theorem count_last (hC : Antitone C) (h0 : ∃ n, n ≤ 4095 ∧ C n = 128) : C (last C) = 128 := by
  obtain ⟨n, hn, hn'⟩ := h0
  have h1 : 128 ≤ C (last C) := le_count_last hn hn'.ge
  have h2 : n ≤ last C := Nat.le_findGreatest (P := fun n => 128 ≤ C n) hn hn'.ge
  have := hC h2
  omega

theorem count_next (hC : Antitone C) (h0 : 128 ≤ C (last C)) (h : last C ≠ 4095) : C (last C + 1) < 128 := by
  by_contra hc
  have h1 := (le_last_iff hC h0 (m := last C + 1) (by have := last_le (C := C); omega)).1 (by omega)
  omega

theorem last_eq (hC : Antitone C) {n : ℕ} (hn : n ≤ 4095) (h1 : 128 ≤ C n) (h2 : C (n + 1) < 128) : last C = n := by
  have h0 := le_count_last hn h1
  have h3 := (le_last_iff hC h0 hn).1 h1
  by_contra hc
  have := hC (show n + 1 ≤ last C by omega)
  omega

theorem base_zero {N : ℕ} (hN : N ≤ 4095) : base 0 N = 0 := by
  unfold base
  rw [show 8 ^ (4 - 0) = 4096 from rfl]
  omega

theorem base_four (N : ℕ) : base 4 N = N := by
  unfold base
  rw [show 8 ^ (4 - 4) = 1 from rfl]
  omega

theorem base_succ {p N : ℕ} (hp : p < 4) : base (p + 1) N = base p N + jump p N * width p := by
  unfold base jump width
  interval_cases p <;> norm_num <;> omega

theorem jump_le (p N : ℕ) : jump p N ≤ 7 := by
  have : jump p N < 8 := Nat.mod_lt _ (by norm_num)
  omega

/-- The interval's upper end, and the next one's. -/
theorem upper_eq {p N : ℕ} (hp : p < 4) : base p N + 8 ^ (4 - p) = base p N + 8 * width p := by
  unfold width
  interval_cases p <;> norm_num

theorem upper_succ {p N : ℕ} (hp : p < 4) : base (p + 1) N + 8 ^ (4 - (p + 1)) = base p N + (jump p N + 1) * width p := by
  rw [base_succ hp]
  unfold width
  interval_cases p <;> norm_num <;> omega

/-- How many of the seven inner points still count 128 is the jump. -/
theorem sum_ind (hC : Antitone C) (h0 : 128 ≤ C (last C)) {p : ℕ} (hp : p < 4) :
    ind (C (base p (last C) + 1 * width p)) + ind (C (base p (last C) + 2 * width p))
      + ind (C (base p (last C) + 3 * width p)) + ind (C (base p (last C) + 4 * width p))
      + ind (C (base p (last C) + 5 * width p)) + ind (C (base p (last C) + 6 * width p))
      + ind (C (base p (last C) + 7 * width p)) = jump p (last C) := by
  have hN : last C ≤ 4095 := last_le
  have key : ∀ j, j ≤ 7 → ind (C (base p (last C) + j * width p)) = if j ≤ jump p (last C) then 1 else 0 := by
    intro j hj
    have hm : base p (last C) + j * width p ≤ 4095 := by
      unfold base width
      interval_cases p <;> norm_num <;> omega
    unfold ind
    refine if_congr ((le_last_iff hC h0 hm).trans ?_) rfl rfl
    unfold base width jump width
    generalize last C = N at *
    clear hm
    interval_cases p <;> norm_num <;> omega
  have h7 : jump p (last C) < 8 := Nat.mod_lt _ (by norm_num)
  rw [key 1 (by omega), key 2 (by omega), key 3 (by omega), key 4 (by omega), key 5 (by omega), key 6 (by omega), key 7 (by omega)]
  interval_cases jump p (last C) <;> rfl

end Cert.Search

end
-- ==== Proof.Math.Lanes.lean ====
module

public import Idealize.ShloMosaic.PureOps
public import Mathlib.Data.Finset.Card
public import Mathlib.Algebra.BigOperators.Group.Finset.Basic
public import Mathlib.Tactic.IntervalCases
public import Mathlib.Tactic.NormNum

@[expose] public section

/-! # Eight counters packed in two words

Each lane counts, over the chunks, how often its score falls into each of eight buckets. The counts of buckets 0 to 3 are
the four 7-bit fields of one word and those of 4 to 7 the fields of another; 49 chunks keep every field below 128. -/

namespace Cert.Lanes

open Idealize.ShloMosaic

/-- How many of the first `n` chunks have bucket `d`. -/
def cnt (b : ℕ → ℕ) (n d : ℕ) : ℕ := ((Finset.range n).filter fun c => b c = d).card

/-- Four counts as the fields of one number. -/
def pack (a0 a1 a2 a3 : ℕ) : ℕ := a0 + 128 * a1 + 16384 * a2 + 2097152 * a3

/-- The word of the counts of buckets `4 h` to `4 h + 3`. -/
def word (b : ℕ → ℕ) (n h : ℕ) : BitVec 32 :=
  BitVec.ofNat 32 (pack (cnt b n (4 * h)) (cnt b n (4 * h + 1)) (cnt b n (4 * h + 2)) (cnt b n (4 * h + 3)))

theorem cnt_zero (b : ℕ → ℕ) (d : ℕ) : cnt b 0 d = 0 := by simp [cnt]

theorem cnt_le (b : ℕ → ℕ) (n d : ℕ) : cnt b n d ≤ n := by
  unfold cnt
  exact (Finset.card_filter_le _ _).trans (Finset.card_range n).le

theorem cnt_succ (b : ℕ → ℕ) (n d : ℕ) : cnt b (n + 1) d = cnt b n d + if b n = d then 1 else 0 := by
  unfold cnt
  rw [Finset.range_add_one, Finset.filter_insert]
  split
  · rw [Finset.card_insert_of_notMem (by simp)]
  · rfl

theorem word_zero (b : ℕ → ℕ) (h : ℕ) : word b 0 h = 0#32 := by
  unfold word pack
  simp only [cnt_zero]

/-- What a chunk of bucket `d` adds to the word of the upper (`h = 1`) or lower (`h = 0`) buckets. -/
def inc (h d : ℕ) : ℕ :=
  if d = 4 * h then 1 else if d = 4 * h + 1 then 128 else if d = 4 * h + 2 then 16384 else if d = 4 * h + 3 then 2097152 else 0

theorem word_succ (b : ℕ → ℕ) (n h : ℕ) : word b (n + 1) h = word b n h + BitVec.ofNat 32 (inc h (b n)) := by
  unfold word
  rw [← BitVec.ofNat_add]
  congr 1
  simp only [cnt_succ]
  unfold pack inc
  generalize b n = d
  by_cases h0 : d = 4 * h
  · subst h0; simp only [if_true]; split_ifs <;> omega
  by_cases h1 : d = 4 * h + 1
  · subst h1; split_ifs <;> omega
  by_cases h2 : d = 4 * h + 2
  · subst h2; split_ifs <;> omega
  split_ifs <;> omega

/-- The increment the kernel computes for the lower buckets, from the bucket's word. -/
def incLo (d : BitVec 32) : BitVec 32 :=
  Scalar.select (IntOp.cmpi .sge d 4#32) 0#32 (IntOp.shli .vector 1#32 (IntOp.muli 7#32 (IntOp.andi d 3#32)))

/-- The same for the upper buckets. -/
def incHi (d : BitVec 32) : BitVec 32 :=
  Scalar.select (IntOp.cmpi .sge d 4#32) (IntOp.shli .vector 1#32 (IntOp.muli 7#32 (IntOp.andi d 3#32))) 0#32

theorem incLo_eq {d : ℕ} (hd : d ≤ 7) : incLo (BitVec.ofNat 32 d) = BitVec.ofNat 32 (inc 0 d) := by
  interval_cases d <;> decide

theorem incHi_eq {d : ℕ} (hd : d ≤ 7) : incHi (BitVec.ofNat 32 d) = BitVec.ofNat 32 (inc 1 d) := by
  interval_cases d <;> decide

theorem field_of {x k : ℕ} (hx : x < 2 ^ 31) (hk : k < 32) :
    ((IntOp.andi (IntOp.shrsi .vector (BitVec.ofNat 32 x) (BitVec.ofNat 32 k)) 127#32).toInt : ℤ) = ((x / 2 ^ k % 128 : ℕ) : ℤ) := by
  have h1 : (BitVec.ofNat 32 k).toNat = k := by rw [BitVec.toNat_ofNat]; exact Nat.mod_eq_of_lt (by omega)
  have h2 : (BitVec.ofNat 32 x).toNat = x := by rw [BitVec.toNat_ofNat]; exact Nat.mod_eq_of_lt (by omega)
  have h3 : (BitVec.ofNat 32 x).msb = false := by
    rw [BitVec.msb_eq_false_iff_two_mul_lt, h2]; omega
  have h4 : IntOp.andi (IntOp.shrsi .vector (BitVec.ofNat 32 x) (BitVec.ofNat 32 k)) 127#32
      = BitVec.ofNat 32 (x / 2 ^ k % 128) := by
    apply BitVec.eq_of_toNat_eq
    unfold IntOp.andi IntOp.shrsi
    rw [if_pos (by rw [h1]; exact hk), BitVec.sshiftRight', BitVec.sshiftRight_eq_of_msb_false h3, BitVec.toNat_and,
      BitVec.toNat_ushiftRight, h1, h2, Nat.shiftRight_eq_div_pow, BitVec.toNat_ofNat, BitVec.toNat_ofNat]
    rw [show 127 % 2 ^ 32 = 2 ^ 7 - 1 from rfl, Nat.and_two_pow_sub_one_eq_mod]
    have : x / 2 ^ k % 128 < 128 := Nat.mod_lt _ (by norm_num)
    omega
  rw [h4]
  have : x / 2 ^ k % 128 < 128 := Nat.mod_lt _ (by norm_num)
  generalize x / 2 ^ k % 128 = y at *
  rw [BitVec.toInt_ofNat']
  norm_num
  rw [Int.bmod_def]
  omega

variable (b : ℕ → ℕ) {n : ℕ} (hn : n ≤ 49) (h : ℕ)

include hn

theorem field0 : ((IntOp.andi (IntOp.shrsi .vector (word b n h) 0#32) 127#32).toInt : ℤ) = cnt b n (4 * h) := by
  have := cnt_le b n (4 * h); have := cnt_le b n (4 * h + 1); have := cnt_le b n (4 * h + 2); have := cnt_le b n (4 * h + 3)
  unfold word pack
  rw [field_of (k := 0) (by omega) (by omega)]
  congr 1; norm_num; omega

theorem field1 : ((IntOp.andi (IntOp.shrsi .vector (word b n h) 7#32) 127#32).toInt : ℤ) = cnt b n (4 * h + 1) := by
  have := cnt_le b n (4 * h); have := cnt_le b n (4 * h + 1); have := cnt_le b n (4 * h + 2); have := cnt_le b n (4 * h + 3)
  unfold word pack
  rw [field_of (k := 7) (by omega) (by omega)]
  congr 1; norm_num; omega

theorem field2 : ((IntOp.andi (IntOp.shrsi .vector (word b n h) 14#32) 127#32).toInt : ℤ) = cnt b n (4 * h + 2) := by
  have := cnt_le b n (4 * h); have := cnt_le b n (4 * h + 1); have := cnt_le b n (4 * h + 2); have := cnt_le b n (4 * h + 3)
  unfold word pack
  rw [field_of (k := 14) (by omega) (by omega)]
  congr 1; norm_num; omega

theorem field3 : ((IntOp.andi (IntOp.shrsi .vector (word b n h) 21#32) 127#32).toInt : ℤ) = cnt b n (4 * h + 3) := by
  have := cnt_le b n (4 * h); have := cnt_le b n (4 * h + 1); have := cnt_le b n (4 * h + 2); have := cnt_le b n (4 * h + 3)
  unfold word pack
  rw [field_of (k := 21) (by omega) (by omega)]
  congr 1; norm_num; omega

omit hn

/-- The chunks whose bucket is at least `j`. -/
def above (b : ℕ → ℕ) (n j : ℕ) : ℕ := ((Finset.range n).filter fun c => j ≤ b c).card

theorem above_eight (hb : ∀ c, b c ≤ 7) : above b n 8 = 0 := by
  unfold above
  rw [Finset.card_eq_zero, Finset.filter_eq_empty_iff]
  intro c _; have := hb c; omega

theorem above_eq (j : ℕ) : above b n j = above b n (j + 1) + cnt b n j := by
  unfold above cnt
  rw [← Finset.card_union_of_disjoint, ← Finset.filter_or]
  · congr 1; ext c; simp only [Finset.mem_filter]; constructor <;> rintro ⟨h1, h2⟩ <;> exact ⟨h1, by omega⟩
  · rw [Finset.disjoint_filter]; intro c _ h1 h2; omega

end Cert.Lanes

end
-- ==== Proof.Math.Scores.lean ====
module

public import proofs.«01_k».proof.Proof.Math.Search
public import proofs.«01_k».proof.Proof.Math.Lanes
public import proofs.«01_k».proof.Proof.Math.Consts

@[expose] public section

/-! # A row's scores, its thresholds and its buckets -/

noncomputable section

namespace Cert.Scores

open Idealize.ShloMosaic Cert.Search Cert.Lanes Cert.Consts

/-- A row's scores: chunk `c`, lane `l`. -/
abbrev Row : Type := ℕ → Fin 2048 → ℝ

variable (G : Row)

/-- How many scores of the row reach threshold `n`. -/
def reach (n : ℕ) : ℕ := ∑ l : Fin 2048, ((Finset.range 49).filter fun c => thr n ≤ G c l).card

theorem thr_mono : Monotone thr := by
  intro a b h
  unfold thr
  have h1 : (a : ℝ) ≤ b := by exact_mod_cast h
  have h2 := mul_le_mul_of_nonneg_right h1 cell_pos.le
  linarith

theorem reach_anti : Antitone (reach G) := by
  intro a b h
  refine Finset.sum_le_sum fun l _ => Finset.card_le_card fun c hc => ?_
  rw [Finset.mem_filter] at hc ⊢
  exact ⟨hc.1, (thr_mono h).trans hc.2⟩

/-- The distance of the points phase `p` divides its interval by. -/
def gap (p : ℕ) : ℝ := cell * (width p : ℝ)

theorem gap_pos (p : ℕ) : 0 < gap p := by
  unfold gap width
  have := cell_pos
  positivity

theorem thr_add (b j p : ℕ) : thr (b + j * width p) = thr b + j * gap p := by
  unfold thr gap
  push_cast
  ring

/-- The bucket of a score, counted from `lo` in phase `p`. -/
def bucket (p : ℕ) (lo x : ℝ) : ℕ := ⌊min (max ((x - lo) * (1 / gap p)) 0) (1023 / 128)⌋₊

theorem bucket_le (p : ℕ) (lo x : ℝ) : bucket p lo x ≤ 7 := by
  unfold bucket
  have h : min (max ((x - lo) * (1 / gap p)) 0) (1023 / 128 : ℝ) ≤ 1023 / 128 := min_le_right _ _
  have h2 := Nat.floor_le_floor h
  have h3 : ⌊(1023 / 128 : ℝ)⌋₊ = 7 := by rw [Nat.floor_eq_iff (by norm_num)]; norm_num
  omega

theorem le_bucket (p : ℕ) (lo x : ℝ) {j : ℕ} (h1 : 1 ≤ j) (h7 : j ≤ 7) : j ≤ bucket p lo x ↔ lo + j * gap p ≤ x := by
  unfold bucket
  have hg := gap_pos p
  have hj : (1 : ℝ) ≤ j := by exact_mod_cast h1
  have hj7 : (j : ℝ) ≤ 7 := by exact_mod_cast h7
  rw [Nat.le_floor_iff (le_min (le_max_right _ _) (by norm_num)), le_min_iff, le_max_iff, mul_one_div, le_div_iff₀ hg]
  constructor
  · rintro ⟨h | h, -⟩ <;> linarith
  · intro h; exact ⟨.inl (by linarith), by linarith⟩

theorem bucket_word (p : ℕ) (lo x : ℝ) :
    Ideal.fptosi 32 (min (max (((x : EReal) - (lo : EReal)) * ((1 / gap p : ℝ) : EReal)) 0) (Ideal.ofBits .f32 0x40FFC000#32))
      = BitVec.ofNat 32 (bucket p lo x) := by
  rw [word_top, ← EReal.coe_sub, ← EReal.coe_mul, ← EReal.coe_zero, ← EReal.coe_strictMono.monotone.map_max,
    ← EReal.coe_strictMono.monotone.map_min]
  have hb := bucket_le p lo x
  unfold bucket at hb ⊢
  have h0 : 0 ≤ min (max ((x - lo) * (1 / gap p)) 0) (1023 / 128 : ℝ) := le_min (le_max_right _ _) (by norm_num)
  generalize min (max ((x - lo) * (1 / gap p)) 0) (1023 / 128 : ℝ) = y at *
  unfold Ideal.fptosi
  rw [Ideal.toIntClamped_coe, if_pos h0, ← Int.natCast_floor_eq_floor h0]
  generalize ⌊y⌋₊ = k at *
  rw [show (max (-((2 ^ (32 - 1) : ℕ) : ℤ)) (min (((2 ^ (32 - 1) : ℕ) : ℤ) - 1) (k : ℤ))) = (k : ℤ) by norm_num; omega]
  exact BitVec.ofInt_natCast 32 k

theorem low_le_thr (n : ℕ) : low ≤ thr n := by
  unfold thr
  have h := mul_nonneg (Nat.cast_nonneg (α := ℝ) n) cell_pos.le
  linarith

theorem thr_le {n : ℕ} (hn : n ≤ 4096) : thr n ≤ -10 := by
  have h1 : (n : ℝ) ≤ 4096 := by exact_mod_cast hn
  have h2 := mul_le_mul_of_nonneg_right h1 cell_pos.le
  unfold thr
  unfold cell low at *
  linarith

theorem thr_nonpos {n : ℕ} (hn : n ≤ 4096) : thr n ≤ 0 := (thr_le hn).trans (by norm_num)

theorem gap_le (p : ℕ) : gap p ≤ 1 := by
  have h1 : (width p : ℝ) ≤ 512 := by
    unfold width
    exact_mod_cast (Nat.pow_le_pow_right (by decide) (Nat.sub_le 3 p) : 8 ^ (3 - p) ≤ 8 ^ 3)
  have h2 := mul_le_mul_of_nonneg_left h1 cell_pos.le
  unfold gap
  unfold cell at *
  linarith

/-- An extended real that is the score `y`, or infinite and on the same side of every threshold as `y`. -/
def Reads (x : EReal) (y : ℝ) : Prop := x = y ∨ x = ⊥ ∧ y < low ∨ x = ⊤ ∧ 0 ≤ y

theorem Reads.le_iff {x T : EReal} {y : ℝ} (h : Reads x y) (hT : (low : EReal) ≤ T) (hT' : T ≤ 0) : T ≤ x ↔ T ≤ (y : EReal) := by
  obtain rfl | ⟨rfl, hy⟩ | ⟨rfl, hy⟩ := h
  · rfl
  · refine ⟨fun h1 => absurd (hT.trans h1) ?_, fun h1 => absurd (hT.trans h1) ?_⟩
    · exact not_le.2 (EReal.bot_lt_coe low)
    · exact not_le.2 (EReal.coe_lt_coe_iff.2 hy)
  · exact ⟨fun _ => hT'.trans (EReal.coe_nonneg.2 hy), fun _ => le_top⟩

/-- A real number that stands for an extended real in all comparisons with thresholds. -/
def rep (x : EReal) : ℝ := if x = ⊥ then -100000 else x.toReal

theorem rep_coe (y : ℝ) : rep (y : EReal) = y := by
  unfold rep
  rw [if_neg (EReal.coe_ne_bot y), EReal.toReal_coe]

theorem rep_reads (x : EReal) : Reads x (rep x) := by
  induction x with
  | bot => exact .inr (.inl ⟨rfl, by unfold rep low; norm_num⟩)
  | top => exact .inr (.inr ⟨rfl, by unfold rep; simp⟩)
  | coe y => exact .inl (by rw [rep_coe])

theorem bucket_reads (p : ℕ) {lo y : ℝ} {x : EReal} (hlo : low ≤ lo) (hlo' : lo ≤ -10) (h : Reads x y) :
    Ideal.fptosi 32 (min (max ((x - (lo : EReal)) * ((1 / gap p : ℝ) : EReal)) 0) (Ideal.ofBits .f32 0x40FFC000#32))
      = BitVec.ofNat 32 (bucket p lo y) := by
  have hg : 0 < 1 / gap p := one_div_pos.2 (gap_pos p)
  obtain rfl | ⟨rfl, hy⟩ | ⟨rfl, hy⟩ := h
  · exact bucket_word p lo y
  · rw [← bucket_word p lo y]
    have h1 : (y - lo) * (1 / gap p) ≤ 0 := mul_nonpos_of_nonpos_of_nonneg (by linarith) hg.le
    rw [EReal.bot_sub, EReal.bot_mul_coe_of_pos hg, max_eq_right bot_le, ← EReal.coe_sub, ← EReal.coe_mul,
      max_eq_right (by exact_mod_cast h1)]
  · rw [← bucket_word p lo y]
    have h1 : 1023 / 128 ≤ (y - lo) * (1 / gap p) := by
      rw [mul_one_div, le_div_iff₀ (gap_pos p)]
      have := gap_le p
      linarith
    have h2 : ((1023 / 128 : ℝ) : EReal) ≤ max (((y - lo) * (1 / gap p) : ℝ) : EReal) 0 := (EReal.coe_le_coe_iff.2 h1).trans (le_max_left _ _)
    rw [EReal.top_sub_coe, EReal.top_mul_coe_of_pos hg, max_eq_left le_top, word_top, min_eq_right le_top, ← EReal.coe_sub, ← EReal.coe_mul,
      min_eq_right h2]

/-- How many of the row's scores have bucket at least `j`. -/
def sumAbove (p : ℕ) (lo : ℝ) (j : ℕ) : ℕ := ∑ l : Fin 2048, above (fun c => bucket p lo (G c l)) 49 j

theorem sumAbove_eq (p b : ℕ) {j : ℕ} (h1 : 1 ≤ j) (h7 : j ≤ 7) :
    sumAbove G p (thr b) j = reach G (b + j * width p) := by
  unfold sumAbove reach above
  refine Finset.sum_congr rfl fun l _ => congrArg Finset.card (Finset.filter_congr fun c _ => ?_)
  rw [le_bucket p _ _ h1 h7, thr_add]

end Cert.Scores

end
-- ==== Proof.Math.RowSums.lean ====
module

public import proofs.«01_k».proof.Proof.Math.Scores

@[expose] public section

/-! # A row's sums over the scores that reach a threshold -/

noncomputable section

namespace Cert.RowSums

open Idealize.ShloMosaic Cert.Search Cert.Consts Cert.Scores
open scoped Classical

variable (G R V : Row) (T : EReal)

/-- How many of the first `n` chunks' scores reach `T`. -/
def cntN (n : ℕ) : ℕ := ∑ c ∈ Finset.range n, ∑ l : Fin 2048, if T ≤ (G c l : EReal) then 1 else 0

/-- The weights of those scores, summed. -/
def denS (n : ℕ) : ℝ := ∑ c ∈ Finset.range n, ∑ l : Fin 2048, if T ≤ (G c l : EReal) then Real.exp (G c l) * R c l else 0

/-- The weighted values of those scores, summed. -/
def numS (n : ℕ) : ℝ := ∑ c ∈ Finset.range n, ∑ l : Fin 2048, (if T ≤ (G c l : EReal) then Real.exp (G c l) * R c l else 0) * V c l

theorem cntN_succ (n : ℕ) : (((cntN G T n : ℕ) : ℝ) : EReal) + ∑ l : Fin 2048, (if T ≤ (G n l : EReal) then 1 else 0)
    = ((cntN G T (n + 1) : ℕ) : ℝ) := by
  unfold cntN
  rw [Finset.sum_range_succ, Nat.cast_add, EReal.coe_add, Nat.cast_sum (s := Finset.univ), coe_sum]
  refine congrArg _ (Finset.sum_congr rfl fun l _ => ?_)
  split <;> simp

section
variable (X W Y : ℕ → Fin 2048 → EReal)

/-- The same sum of extended reals. -/
def denE (n : ℕ) : EReal := ∑ c ∈ Finset.range n, ∑ l : Fin 2048, if T ≤ X c l then Ideal.exp (X c l) * W c l else 0

/-- The same sum of extended reals. -/
def numE (n : ℕ) : EReal := ∑ c ∈ Finset.range n, ∑ l : Fin 2048, (if T ≤ X c l then Ideal.exp (X c l) * W c l else 0) * Y c l

theorem denE_succ (n : ℕ) : denE T X W n + ∑ l : Fin 2048, (if T ≤ X n l then Ideal.exp (X n l) * W n l else 0) = denE T X W (n + 1) :=
  (Finset.sum_range_succ _ n).symm

theorem numE_succ (n : ℕ) : numE T X W Y n + ∑ l : Fin 2048, (if T ≤ X n l then Ideal.exp (X n l) * W n l else 0) * Y n l
    = numE T X W Y (n + 1) :=
  (Finset.sum_range_succ _ n).symm

/-- A lane's score and ratio: both real, or the score below every threshold and the ratio any. -/
def Lane (x w : EReal) (y z : ℝ) : Prop := x = y ∧ w = z ∨ x = ⊥ ∧ y < low

variable {T}

theorem Lane.term {x w : EReal} {y z : ℝ} (h : Lane x w y z) (hT : (low : EReal) ≤ T) :
    (if T ≤ x then Ideal.exp x * w else 0) = ((if T ≤ (y : EReal) then Real.exp y * z else 0 : ℝ) : EReal) := by
  rw [coe_ite, EReal.coe_mul, EReal.coe_zero]
  obtain ⟨rfl, rfl⟩ | h := h
  · rw [Ideal.exp_coe]
  · have hn : ¬T ≤ (y : EReal) := fun h1 => absurd (hT.trans h1) (not_le.2 (EReal.coe_lt_coe_iff.2 h.2))
    rw [if_neg hn, if_neg fun h1 => absurd (hT.trans h1) (by rw [h.1]; exact not_le.2 (EReal.bot_lt_coe low))]

variable {X W Y G R V} (hL : ∀ c l, Lane (X c l) (W c l) (G c l) (R c l)) (hT : (low : EReal) ≤ T)

include hL hT in
theorem denE_eq (n : ℕ) : denE T X W n = (denS G R T n : ℝ) := by
  unfold denE denS
  rw [coe_sum]
  refine Finset.sum_congr rfl fun c _ => ?_
  rw [coe_sum]
  exact Finset.sum_congr rfl fun l _ => (hL c l).term hT

include hL hT in
theorem numE_eq (hV : ∀ c l, Y c l = (V c l : ℝ)) (n : ℕ) : numE T X W Y n = (numS G R V T n : ℝ) := by
  unfold numE numS
  rw [coe_sum]
  refine Finset.sum_congr rfl fun c _ => ?_
  rw [coe_sum]
  exact Finset.sum_congr rfl fun l _ => by rw [(hL c l).term hT, hV, EReal.coe_mul]

include hT in
/-- An infinite score makes the weights' sum infinite. -/
theorem denE_top (hW : ∀ c l, (low : EReal) ≤ X c l → 0 < W c l) {n c : ℕ} (hc : c < n) {l : Fin 2048} (hX : X c l = ⊤) : denE T X W n = ⊤ := by
  have hterm : ∀ c l, 0 ≤ (if T ≤ X c l then Ideal.exp (X c l) * W c l else 0) := fun c l => by
    split
    · rename_i h
      refine mul_nonneg ?_ (hW c l (hT.trans h)).le
      generalize X c l = x
      induction x with
      | bot => exact le_rfl
      | top => exact le_top
      | coe y => exact EReal.coe_nonneg.2 (Real.exp_pos y).le
    · exact le_rfl
  have h1 : (if T ≤ X c l then Ideal.exp (X c l) * W c l else 0) = ⊤ := by
    rw [if_pos (by rw [hX]; exact le_top)]
    have h0 := hW c l (by rw [hX]; exact le_top)
    rw [hX, Ideal.exp_top, EReal.top_mul_of_pos h0]
  refine top_le_iff.1 (h1.symm.le.trans ?_)
  refine (Finset.single_le_sum (fun l _ => hterm c l) (Finset.mem_univ l)).trans ?_
  exact Finset.single_le_sum (f := fun c => ∑ l : Fin 2048, if T ≤ X c l then Ideal.exp (X c l) * W c l else 0)
    (fun c _ => Finset.sum_nonneg fun l _ => hterm c l) (Finset.mem_range.2 hc)

end

theorem cntN_thr (n : ℕ) : cntN G (thr n : EReal) 49 = reach G n := by
  unfold cntN reach
  rw [Finset.sum_comm]
  refine Finset.sum_congr rfl fun l _ => ?_
  rw [Finset.card_filter]
  refine Finset.sum_congr rfl fun c _ => ?_
  exact if_congr EReal.coe_le_coe_iff rfl rfl

variable {T} {T' : EReal} (h : T ≤ T')
include h

theorem cntN_le : cntN G T' 49 ≤ cntN G T 49 := by
  refine Finset.sum_le_sum fun c _ => Finset.sum_le_sum fun l _ => ?_
  by_cases h1 : T' ≤ (G c l : EReal)
  · rw [if_pos h1, if_pos (h.trans h1)]
  · rw [if_neg h1]; exact Nat.zero_le _

/-- If equally many scores reach two thresholds, the same ones do. -/
theorem same_of_cntN (he : cntN G T' 49 = cntN G T 49) {c : ℕ} (hc : c < 49) (l : Fin 2048) :
    T' ≤ (G c l : EReal) ↔ T ≤ (G c l : EReal) := by
  have hle (c : ℕ) (l : Fin 2048) : (if T' ≤ (G c l : EReal) then 1 else 0) ≤ (if T ≤ (G c l : EReal) then 1 else 0) := by
    by_cases h1 : T' ≤ (G c l : EReal)
    · rw [if_pos h1, if_pos (h.trans h1)]
    · rw [if_neg h1]; exact Nat.zero_le _
  have h1 := (Finset.sum_eq_sum_iff_of_le fun c _ => Finset.sum_le_sum fun l _ => hle c l).1 he c (Finset.mem_range.2 hc)
  have h2 := (Finset.sum_eq_sum_iff_of_le fun l _ => hle c l).1 h1 l (Finset.mem_univ _)
  refine ⟨h.trans, fun h3 => ?_⟩
  by_contra h4
  rw [if_neg h4, if_pos h3] at h2
  exact absurd h2 (by decide)

theorem sums_of_cntN (he : cntN G T' 49 = cntN G T 49) :
    denS G R T' 49 = denS G R T 49 ∧ numS G R V T' 49 = numS G R V T 49 := by
  unfold denS numS
  constructor <;> refine Finset.sum_congr rfl fun c hc => Finset.sum_congr rfl fun l _ => ?_
  · exact if_congr (same_of_cntN G h he (Finset.mem_range.1 hc) l) rfl rfl
  · exact congrArg (· * V c l) (if_congr (same_of_cntN G h he (Finset.mem_range.1 hc) l) rfl rfl)

end Cert.RowSums

end
-- ==== Proof.Math.Table.lean ====
module

public import proofs.«01_k».proof.Proof.Math.RowSums

@[expose] public section

/-! # A row's scores laid out in 49 chunks of 2048 lanes, the last chunk padded -/

noncomputable section

namespace Cert.Table

open Cert.Consts Cert.Scores Cert.RowSums
open scoped Classical

/-- A point between two neighbouring thresholds is not above the second. -/
theorem between_le (n : ℕ) {a b : ℝ} (hb : b < 128) (ha : 128 ≤ a) : thr n + cell * ((a - 128) / (a - b)) ≤ thr (n + 1) := by
  have h1 : (a - 128) / (a - b) ≤ 1 := (div_le_one (by linarith)).2 (by linarith)
  have h2 := mul_le_mul_of_nonneg_left h1 cell_pos.le
  unfold thr
  push_cast
  linarith

/-- A table of 100000 numbers in chunks, `d` after its end. -/
def spread (f : Fin 100000 → ℝ) (d : ℝ) : Row := fun c l => if h : 2048 * c + l.val < 100000 then f ⟨_, h⟩ else d

/-- Chunk by chunk and lane by lane is entry by entry. -/
theorem sum_lanes {A : Type*} [AddCommMonoid A] (f : ℕ → A) (n : ℕ) :
    ∑ c ∈ Finset.range n, ∑ l : Fin 2048, f (2048 * c + l.val) = ∑ k ∈ Finset.range (2048 * n), f k := by
  induction n with
  | zero => simp
  | succ n ih =>
    rw [Finset.sum_range_succ, ih, Nat.mul_succ, Finset.sum_range_add, Fin.sum_univ_eq_sum_range (fun l => f (2048 * n + l))]

/-- A sum over the chunks whose padding contributes nothing is the sum over the table. -/
theorem sum_spread {A : Type*} [AddCommMonoid A] (f : Fin 100000 → A) :
    ∑ c ∈ Finset.range 49, ∑ l : Fin 2048, (if h : 2048 * c + l.val < 100000 then f ⟨_, h⟩ else 0) = ∑ j, f j := by
  rw [sum_lanes (fun k => if h : k < 100000 then f ⟨k, h⟩ else 0) 49]
  have e : ∑ j, f j = ∑ k ∈ Finset.range 100000, if h : k < 100000 then f ⟨k, h⟩ else 0 := by
    rw [← Fin.sum_univ_eq_sum_range (fun k => if h : k < 100000 then f ⟨k, h⟩ else 0)]
    exact Finset.sum_congr rfl fun j _ => by rw [dif_pos j.isLt]
  rw [e]
  refine (Finset.sum_subset (Finset.range_subset_range.2 (by norm_num)) fun k _ hk => ?_).symm
  rw [Finset.mem_range] at hk
  rw [dif_neg hk]

variable (g r v : Fin 100000 → ℝ)

variable {T : ℝ} (hT : low ≤ T)
include hT

/-- The padding's score reaches no threshold. -/
theorem pad_lt : ¬ T ≤ -100000 := by
  unfold low at hT
  intro h2
  linarith

omit hT in
/-- The entries whose score reaches `T`. -/
def hits (T : ℝ) : Finset (Fin 100000) := Finset.univ.filter fun j => T ≤ g j

theorem cntN_spread : cntN (spread g (-100000)) (T : EReal) 49 = (hits g T).card := by
  unfold cntN hits
  rw [Finset.card_filter, ← sum_spread]
  refine Finset.sum_congr rfl fun c _ => Finset.sum_congr rfl fun l _ => ?_
  rw [if_congr EReal.coe_le_coe_iff rfl rfl]
  unfold spread
  split
  · rfl
  · exact if_neg (pad_lt hT)

theorem denS_spread : denS (spread g (-100000)) (spread r 0) (T : EReal) 49 = ∑ j ∈ hits g T, Real.exp (g j) * r j := by
  unfold denS hits
  rw [Finset.sum_filter, ← sum_spread]
  refine Finset.sum_congr rfl fun c _ => Finset.sum_congr rfl fun l _ => ?_
  rw [if_congr EReal.coe_le_coe_iff rfl rfl]
  unfold spread
  split
  · rfl
  · exact if_neg (pad_lt hT)

theorem numS_spread : numS (spread g (-100000)) (spread r 0) (spread v 0) (T : EReal) 49
    = ∑ j ∈ hits g T, Real.exp (g j) * r j * v j := by
  unfold numS hits
  rw [Finset.sum_filter, ← sum_spread]
  refine Finset.sum_congr rfl fun c _ => Finset.sum_congr rfl fun l _ => ?_
  rw [if_congr EReal.coe_le_coe_iff rfl rfl]
  unfold spread
  split
  · rw [ite_mul, zero_mul]
  · rw [if_neg (pad_lt hT), zero_mul]

omit hT in
theorem reach_spread (n : ℕ) : reach (spread g (-100000)) n = (hits g (thr n)).card :=
  (cntN_thr _ n).symm.trans (cntN_spread g (low_le_thr n))

end Cert.Table

end
-- ==== Proof.Math.Posterior.lean ====
module

public import proofs.«01_k».proof.Proof.Math.Scores

@[expose] public section

/-! # The two forms of one posterior mean

The kernel weighs an entry by `exp (s + log (h + β)) * ((α h + β) / (h + β))`, the reference by `exp (s - 1) * (h α + β)`.
The weights are proportional, so their means agree. An entry whose prior isn't positive has the score of the padding. -/

noncomputable section

namespace Cert.Posterior

open Idealize.ShloMosaic Cert.Consts Cert.Scores

/-- The reference's weight of an entry. -/
def weight (s h : ℝ) : ℝ := Real.exp (s - 1) * (h * alpha + beta)

/-- The kernel's score of an entry. -/
def score (s h : ℝ) : ℝ := if 0 < h + beta then s + Real.log (h + beta) else -100000

theorem score_pos (s : ℝ) {h : ℝ} (hh : 0 < h + beta) : score s h = s + Real.log (h + beta) := if_pos hh

/-- An entry's prior is positive and real, or else not positive and with the logarithm minus infinity. -/
theorem prior_cases {h : EReal} (hh : h < ⊤) :
    (∃ H : ℝ, h = H ∧ 0 < H + beta) ∨ h + (beta : EReal) ≤ 0 ∧ Ideal.log (h + (beta : EReal)) = ⊥ := by
  induction h with
  | top => exact absurd rfl hh.ne
  | bot => exact .inr (by rw [EReal.bot_add]; exact ⟨bot_le, rfl⟩)
  | coe H =>
    by_cases hp : 0 < H + beta
    · exact .inl ⟨H, rfl, hp⟩
    · refine .inr ?_
      rw [← EReal.coe_add, Ideal.log_coe, if_pos (not_lt.1 hp)]
      exact ⟨EReal.coe_nonpos.2 (not_lt.1 hp), rfl⟩

/-- An entry's log score, over the extended reals. -/
def entryOf (s h : EReal) : EReal := s + Ideal.log (h + (beta : EReal))

theorem entry_prior {s h : EReal} (hh : h < ⊤) (he : entryOf s h ≠ ⊥) : ∃ H : ℝ, h = H ∧ 0 < H + beta := by
  refine (prior_cases hh).resolve_right fun hc => he ?_
  unfold entryOf
  rw [hc.2, EReal.add_bot]

theorem entry_coe (s : EReal) {H : ℝ} (hp : 0 < H + beta) : entryOf s H = s + (Real.log (H + beta) : ℝ) := by
  unfold entryOf
  rw [← EReal.coe_add, Ideal.log_coe, if_neg (not_le.2 hp)]

theorem entry_top {s h : EReal} (hh : h < ⊤) (he : entryOf s h = ⊤) : s = ⊤ := by
  obtain ⟨H, rfl, hp⟩ := entry_prior hh (by rw [he]; exact top_ne_bot)
  rw [entry_coe s hp] at he
  induction s with
  | top => rfl
  | bot => simp at he
  | coe y => rw [← EReal.coe_add] at he; exact absurd he (EReal.coe_ne_top _)

theorem entry_real {s h : EReal} (hh : h < ⊤) (he : entryOf s h ≠ ⊥) (he' : entryOf s h ≠ ⊤) :
    ∃ S H : ℝ, s = S ∧ h = H ∧ 0 < H + beta ∧ entryOf s h = score S H := by
  obtain ⟨H, rfl, hp⟩ := entry_prior hh he
  have e := entry_coe s hp
  induction s with
  | top => exact absurd (e.trans (EReal.top_add_coe _)) he'
  | bot => exact absurd (e.trans (EReal.bot_add _)) he
  | coe y => exact ⟨y, H, rfl, rfl, hp, by rw [e, score_pos y hp, EReal.coe_add]⟩

theorem exp_nonneg (x : EReal) : 0 ≤ Ideal.exp x := by
  induction x with
  | bot => exact le_rfl
  | top => exact le_top
  | coe y => exact EReal.coe_nonneg.2 (Real.exp_pos y).le

theorem exp_sub_lt {a b : EReal} (h : a < b) : Ideal.exp (a - ((1 : ℝ) : EReal)) < Ideal.exp (b - ((1 : ℝ) : EReal)) := by
  induction a with
  | top => exact absurd h not_top_lt
  | bot =>
    rw [EReal.bot_sub, Ideal.exp_bot]
    induction b with
    | bot => exact absurd h (lt_irrefl _)
    | top => rw [EReal.top_sub_coe, Ideal.exp_top]; exact EReal.zero_lt_top
    | coe y => rw [← EReal.coe_sub, Ideal.exp_coe]; exact EReal.coe_pos.2 (Real.exp_pos _)
  | coe x =>
    rw [← EReal.coe_sub, Ideal.exp_coe]
    induction b with
    | bot => exact absurd h not_lt_bot
    | top => rw [EReal.top_sub_coe, Ideal.exp_top]; exact EReal.coe_lt_top _
    | coe y => rw [← EReal.coe_sub, Ideal.exp_coe]; exact EReal.coe_lt_coe_iff.2 (Real.exp_lt_exp.2 (by linarith [EReal.coe_lt_coe_iff.1 h]))

/-- Likelihood times prior is the exponential of the log score less one. -/
theorem exp_mass (s : EReal) {H : ℝ} (hp : 0 < H + beta) :
    Ideal.exp (s - ((1 : ℝ) : EReal)) * ((H : EReal) + (beta : EReal)) = Ideal.exp (entryOf s H - ((1 : ℝ) : EReal)) := by
  rw [entry_coe s hp, ← EReal.coe_add]
  induction s with
  | bot => rw [EReal.bot_sub, EReal.bot_add, EReal.bot_sub, Ideal.exp_bot, zero_mul]
  | top => rw [EReal.top_sub_coe, EReal.top_add_coe, EReal.top_sub_coe, Ideal.exp_top, EReal.top_mul_coe_of_pos hp]
  | coe y =>
    rw [← EReal.coe_sub, ← EReal.coe_add, ← EReal.coe_sub, Ideal.exp_coe, Ideal.exp_coe, ← EReal.coe_mul]
    rw [show y + Real.log (H + beta) - 1 = (y - 1) + Real.log (H + beta) by ring, Real.exp_add, Real.exp_log hp]

/-- The reference's ordering of the entries is the kernel's. -/
theorem mass_lt {s h s' h' : EReal} (hh : h < ⊤) (hh' : h' < ⊤) (hlt : entryOf s h < entryOf s' h') :
    Ideal.exp (s - ((1 : ℝ) : EReal)) * (h + (beta : EReal)) < Ideal.exp (s' - ((1 : ℝ) : EReal)) * (h' + (beta : EReal)) := by
  obtain ⟨H', rfl, hp'⟩ := entry_prior hh' (bot_le.trans_lt hlt).ne'
  rw [exp_mass s' hp']
  rcases prior_cases hh with ⟨H, rfl, hp⟩ | ⟨hp, -⟩
  · rw [exp_mass s hp]
    exact exp_sub_lt hlt
  · refine (mul_nonpos_of_nonneg_of_nonpos (exp_nonneg _) hp).trans_lt ?_
    have h0 := exp_sub_lt (bot_le.trans_lt hlt)
    rwa [EReal.bot_sub, Ideal.exp_bot] at h0

/-- The kernel's correction of an entry. -/
def ratio (h : ℝ) : ℝ := (alpha * h + beta) / (h + beta)

theorem shrunk_pos {h : ℝ} (hh : 0 < h + beta) : 0 < h * alpha + beta := by
  nlinarith [alpha_pos, alpha_lt, beta_pos, mul_pos alpha_pos hh, mul_pos (sub_pos.2 alpha_lt) beta_pos]

theorem weight_pos (s : ℝ) {h : ℝ} (hh : 0 < h + beta) : 0 < weight s h := mul_pos (Real.exp_pos _) (shrunk_pos hh)

theorem exp_score (s : ℝ) {h : ℝ} (hh : 0 < h + beta) : Real.exp (score s h) * ratio h = Real.exp 1 * weight s h := by
  rw [score_pos s hh]
  unfold ratio weight
  rw [Real.exp_add, Real.exp_log hh, show s = 1 + (s - 1) by ring, Real.exp_add]
  field_simp
  ring_nf

theorem ratio_pos {h : ℝ} (hh : 0 < h + beta) : 0 < ratio h :=
  div_pos (by rw [mul_comm]; exact shrunk_pos hh) hh

variable {ι : Type*} (S : Finset ι) (s h v : ι → ℝ) (hh : ∀ j ∈ S, 0 < h j + beta)
include hh

theorem den_eq : ∑ j ∈ S, Real.exp (score (s j) (h j)) * ratio (h j) = Real.exp 1 * ∑ j ∈ S, weight (s j) (h j) := by
  rw [Finset.mul_sum]; exact Finset.sum_congr rfl fun j hj => exp_score _ (hh j hj)

theorem num_eq : ∑ j ∈ S, Real.exp (score (s j) (h j)) * ratio (h j) * v j = Real.exp 1 * ∑ j ∈ S, weight (s j) (h j) * v j := by
  rw [Finset.mul_sum]; exact Finset.sum_congr rfl fun j hj => by rw [exp_score _ (hh j hj), mul_assoc]

theorem sum_weight_pos (hS : S.Nonempty) : 0 < ∑ j ∈ S, weight (s j) (h j) := Finset.sum_pos (fun j hj => weight_pos _ (hh j hj)) hS

/-- The two means agree. -/
theorem mean_eq (hS : S.Nonempty) : (∑ j ∈ S, Real.exp (score (s j) (h j)) * ratio (h j) * v j) / (∑ j ∈ S, Real.exp (score (s j) (h j)) * ratio (h j))
    = ∑ j ∈ S, weight (s j) (h j) / (∑ j ∈ S, weight (s j) (h j)) * v j := by
  have hp := sum_weight_pos S s h hh hS
  rw [den_eq S s h hh, num_eq S s h v hh, mul_div_mul_left _ _ (Real.exp_pos 1).ne', Finset.sum_div]
  exact Finset.sum_congr rfl fun j _ => by ring

end Cert.Posterior

end
-- ==== Proof.KernelIdeal.Padded.lean ====
module

public import proofs.«01_k».proof.Proof.KernelIdeal.Host
public import proofs.«01_k».proof.Proof.Math.Table
public import proofs.«01_k».proof.Proof.Math.Posterior

@[expose] public section

/-! # The padded arrays read at an index -/

noncomputable section

namespace Cert.KernelIdeal.Host

open Idealize.ShloMosaic
open Cert.KernelIdeal Cert.KernelIdeal.Gen Cert.Consts Cert.Posterior
open Facts

section
variable {A : Type} {n p q d : ℕ}

/-- A vector padded at its end. -/
theorem pad_vec (x : (⟨1, ![n]⟩ : Shape).Idx → A) {u : Shape} (z : u.Idx → A)
    (h : (⟨1, ![n]⟩ : Shape).Pads (![0] : Fin 1 → ℕ) ![p] ![0] ⟨1, ![q]⟩) (hu : 0 < u.numel) (j : Fin q) :
    pad ⟨1, ![q]⟩ (![0] : Fin 1 → ℕ) ![p] ![0] x z h hu (ix1 j) = if hj : j.val < n then x (ix1 ⟨j.val, hj⟩) else z (Shape.Idx.first hu) := by
  unfold pad
  by_cases hj : j.val < n
  · rw [dif_pos hj, dif_pos]
    · refine congrArg x (funext fun a => ?_)
      fin_cases a
      exact Fin.ext (by simp)
    · intro a
      fin_cases a
      simpa [Nat.mod_one] using hj
  · rw [dif_neg hj, dif_neg]
    intro hin
    exact hj (by simpa using (hin 0).2.2)

/-- A table padded at its end by whole rows. -/
theorem pad_rows (x : (⟨2, ![n, d]⟩ : Shape).Idx → A) {u : Shape} (z : u.Idx → A)
    (h : (⟨2, ![n, d]⟩ : Shape).Pads (![0, 0] : Fin 2 → ℕ) ![p, 0] ![0, 0] ⟨2, ![q, d]⟩) (hu : 0 < u.numel) (j : Fin q) (l : Fin d) :
    pad ⟨2, ![q, d]⟩ (![0, 0] : Fin 2 → ℕ) ![p, 0] ![0, 0] x z h hu (ix2 j l) = if hj : j.val < n then x (ix2 ⟨j.val, hj⟩ l) else z (Shape.Idx.first hu) := by
  unfold pad
  by_cases hj : j.val < n
  · rw [dif_pos hj, dif_pos]
    · refine congrArg x (funext fun a => ?_)
      fin_cases a
      · exact Fin.ext (by simp)
      · exact Fin.ext (by simp)
    · intro a
      fin_cases a
      · simpa [Nat.mod_one] using hj
      · simp [Nat.mod_one]
  · rw [dif_neg hj, dif_neg]
    intro hin
    exact hj (by simpa using (hin 0).2.2)

end

theorem zero_word (i : S_.Idx) : sitofp (F := Ideal) .f32 (constantI S_ 32 0#32) i = ((0 : ℝ) : EReal) := by
  show (((0#32 : BitVec 32).toInt : ℝ) : EReal) = _
  simp

variable {k : FVec Ideal S100000x64 .f32} {h v : FVec Ideal S100000 .f32}

theorem keys_read (j : Fin 100352) (x : Fin 64) :
    keys k (ix2 j x) = if hj : j.val < 100000 then k (ix2 ⟨_, hj⟩ x) else ((0 : ℝ) : EReal) := by
  unfold keys
  rw [pad_rows]
  split
  · rfl
  · exact zero_word _

theorem zeros_at (j : Fin 100352) : zeros v (ix2 0 j) = if hj : j.val < 100000 then v (ix1 ⟨_, hj⟩) else ((0 : ℝ) : EReal) := by
  have e : zeros v (ix2 0 j) = pad S100352 ![0] ![352] ![0] v (sitofp .f32 (constantI S_ 32 0#32)) pads_S100000_S100352_03520 h_S_ (ix1 j) := by
    unfold zeros; pointwise
  rw [e, pad_vec]
  split
  · rfl
  · exact zero_word _

theorem zeros_read (W : Fin 100000 → ℝ) (hv : ∀ j, v (ix1 j) = ((W j : ℝ) : EReal)) (j : Fin 100352) :
    zeros v (ix2 0 j) = ((if hj : j.val < 100000 then W ⟨_, hj⟩ else 0 : ℝ) : EReal) := by
  rw [zeros_at]
  split
  · exact hv _
  · rfl

theorem priors_read (j : Fin 100352) :
    priors h (ix2 0 j) = if hj : j.val < 100000 then Ideal.log (h (ix1 ⟨_, hj⟩) + (beta : EReal)) else ((-100000 : ℝ) : EReal) := by
  have e : priors h (ix2 0 j) = pad S100352 ![0] ![352] ![0] (Host.log (offset h)) (constant S_ .f32 0xC7C35000#32) pads_S100000_S100352_03520 h_S_ (ix1 j) := by
    unfold priors; pointwise
  rw [e, pad_vec]
  split
  · unfold offset
    pointwise
    rw [word_beta]
  · exact word_pad

theorem ratios_read {H : ℝ} {j : Fin 100000} (hh : h (ix1 j) = (H : EReal)) (hpos : 0 < H + beta) : ratios h (ix1 j) = ((ratio H : ℝ) : EReal) := by
  unfold ratios offset ratio
  pointwise
  rw [word_beta, word_alpha, hh, ← EReal.coe_add, Ideal.div_coe hpos.ne', ← EReal.coe_mul, ← EReal.coe_add, ← EReal.coe_mul]
  congr 1
  ring

end Cert.KernelIdeal.Host

end
-- ==== Proof.KernelIdeal.Blocks.lean ====
module

public import proofs.«01_k».proof.Proof.KernelIdeal.Loop
public import proofs.«01_k».proof.Proof.KernelIdeal.Padded

@[expose] public section

/-! # The input blocks as parts of the whole arrays -/

set_option maxRecDepth 16384

noncomputable section

namespace Cert.KernelIdeal.Hand

open Cert.KernelIdeal Cert.KernelIdeal.Gen
open Idealize.ShloMosaic Idealize.ShloMosaic.TcCoe
open Idealize.ShloMosaic.Pipeline

theorem coord0 (t : Fin cfg0.N) : (grid0.coords t 0).val = t.val / 245 := by
  rw [Pipeline.Grid.coords_val (G := grid0) t 0 (S := 245) (B := 2) (by decide) rfl]
  have := t.isLt
  exact Nat.mod_eq_of_lt (by have : t.val < 490 := this; omega)

theorem bv (n : ℕ) (h : n < 490) : (BitVec.ofNat 32 n).toNat = n := by
  rw [BitVec.toNat_ofNat]; omega

theorem lt_grid (t : Fin cfg0.N) : t.val < 490 := t.isLt

/-- Row `r` of the first window's block. -/
def rowOf (t : Fin cfg0.N) (r : Fin 512) : Fin 1024 := ⟨512 * (t.val / 245) + r.val, by have := lt_grid t; omega⟩
/-- Lane `l` of a chunk's block. -/
def laneOf (t : Fin cfg0.N) (l : Fin 2048) : Fin 100352 := ⟨2048 * (t.val % 49) + l.val, by omega⟩

theorem at0 (t : Fin cfg0.N) : win0_0.index t = ![t.val / 245, 0] := by
  show cc0_transform_0 (grid0.coords t) = _
  unfold cc0_transform_0
  simp only [coord0, bv _ (show t.val / 245 < 490 by have := lt_grid t; omega)]
  rfl
theorem at1 (t : Fin cfg0.N) : win0_1.index t = ![t.val % 49, 0] := by
  show cc0_transform_1 (grid0.coords t) = _
  unfold cc0_transform_1
  simp only [coord2, bv _ (show t.val % 49 < 490 by omega)]
  rfl
theorem at2 (t : Fin cfg0.N) : win0_2.index t = ![0, t.val % 49] := by
  show cc0_transform_2 (grid0.coords t) = _
  unfold cc0_transform_2
  simp only [coord2, bv _ (show t.val % 49 < 490 by omega)]
  rfl
theorem at3 (t : Fin cfg0.N) : win0_3.index t = ![0, t.val % 49] := by
  show cc0_transform_3 (grid0.coords t) = _
  unfold cc0_transform_3
  simp only [coord2, bv _ (show t.val % 49 < 490 by omega)]
  rfl
theorem at4 (t : Fin cfg0.N) : win0_4.index t = ![0, t.val % 49] := by
  show cc0_transform_4 (grid0.coords t) = _
  unfold cc0_transform_4
  simp only [coord2, bv _ (show t.val % 49 < 490 by omega)]
  rfl
theorem at5 (t : Fin cfg0.N) : win0_5.index t = ![t.val / 245, 0] := by
  show cc0_transform_5 (grid0.coords t) = _
  unfold cc0_transform_5
  simp only [coord0, bv _ (show t.val / 245 < 490 by have := lt_grid t; omega)]
  rfl

section
variable {F : FTy → Type} [FloatOps F] [Named F] (m : (ℓ : Loc nD τ sig) → Buf (Elt F) ℓ) (c : Dev nD) (t : Fin cfg0.N)

theorem blk0_read (r : Fin 512) (x : Fin 64) : blk0 m c t (ix2 r x) = V m c main_arg0 (ix2 (rowOf t r) x) := by
  show V m c main_arg0 ((win0_0.rect t).emb (ix2 r x)) = _
  refine congrArg _ (funext fun a => Fin.ext ?_)
  refine (Window.rect_emb_val win0_0 t _ a).trans ?_
  rw [at0]
  fin_cases a
  · show t.val / 245 * 512 + r.val = 512 * (t.val / 245) + r.val
    omega
  · show 0 * 64 + x.val = x.val
    omega

theorem blk1_read (l : Fin 2048) (x : Fin 64) : blk1 m c t (ix2 l x) = V m c main_v5 (ix2 (laneOf t l) x) := by
  show V m c main_v5 ((win0_1.rect t).emb (ix2 l x)) = _
  refine congrArg _ (funext fun a => Fin.ext ?_)
  refine (Window.rect_emb_val win0_1 t _ a).trans ?_
  rw [at1]
  fin_cases a
  · show t.val % 49 * 2048 + l.val = 2048 * (t.val % 49) + l.val
    omega
  · show 0 * 64 + x.val = x.val
    omega

theorem blk2_read (l : Fin 2048) : blk2 m c t (ix2 0 l) = V m c main_v4 (ix2 0 (laneOf t l)) := by
  show V m c main_v4 ((win0_2.rect t).emb (ix2 0 l)) = _
  refine congrArg _ (funext fun a => Fin.ext ?_)
  refine (Window.rect_emb_val win0_2 t _ a).trans ?_
  rw [at2]
  fin_cases a
  · rfl
  · show t.val % 49 * 2048 + l.val = 2048 * (t.val % 49) + l.val
    omega

theorem blk3_read (l : Fin 2048) : blk3 m c t (ix2 0 l) = V m c main_v14 (ix2 0 (laneOf t l)) := by
  show V m c main_v14 ((win0_3.rect t).emb (ix2 0 l)) = _
  refine congrArg _ (funext fun a => Fin.ext ?_)
  refine (Window.rect_emb_val win0_3 t _ a).trans ?_
  rw [at3]
  fin_cases a
  · rfl
  · show t.val % 49 * 2048 + l.val = 2048 * (t.val % 49) + l.val
    omega

theorem blk4_read (l : Fin 2048) : blk4 m c t (ix2 0 l) = V m c main_v16 (ix2 0 (laneOf t l)) := by
  show V m c main_v16 ((win0_4.rect t).emb (ix2 0 l)) = _
  refine congrArg _ (funext fun a => Fin.ext ?_)
  refine (Window.rect_emb_val win0_4 t _ a).trans ?_
  rw [at4]
  fin_cases a
  · rfl
  · show t.val % 49 * 2048 + l.val = 2048 * (t.val % 49) + l.val
    omega

end

section
variable (a : FVec Ideal S512x64 .f32) (b : FVec Ideal S2048x64 .f32) (c : FVec Ideal S1x2048 .f32)

/-- A chunk's log scores. -/
theorem scores_read (r : Fin 512) (l : Fin 2048) : k0_pay1 a b c (ix2 r l) = ∑ x, a (ix2 r x) * b (ix2 l x) + c (ix2 0 l) := by
  unfold k0_pay1; pointwise

end

end Cert.KernelIdeal.Hand

end
-- ==== Proof.KernelIdeal.Result.lean ====
module

public import proofs.«01_k».proof.Proof.KernelIdeal.Blocks

@[expose] public section

/-! # The result array after the last grid point, row by row -/

set_option maxRecDepth 16384

noncomputable section

namespace Cert.KernelIdeal.Hand

open Cert.KernelIdeal Cert.KernelIdeal.Gen
open Idealize.ShloMosaic Idealize.ShloMosaic.TcCoe
open Idealize.ShloMosaic.Pipeline

variable {F : FTy → Type} [FloatOps F] [Named F] {m : (ℓ : Loc nD τ sig) → Buf (Elt F) ℓ} (pl : Plan m) (c : Dev nD)

/-- The result array as a table of one column. -/
abbrev Out (F : FTy → Type) : Type := FVec F S1024x1 .f32

/-- Where a row of the result block lies. -/
theorem out_place (t : Fin cfg0.N) (r : Fin 512) : (win0_5.rect t).emb (ix2 r 0) = (ix2 (rowOf t r) 0 : S1024x1.Idx) := by
  refine funext fun a => Fin.ext ?_
  refine (Window.rect_emb_val win0_5 t _ a).trans ?_
  rw [at5]
  fin_cases a
  · show t.val / 245 * 512 + r.val = 512 * (t.val / 245) + r.val
    omega
  · rfl

/-- A written block read at its own row. -/
theorem write_here (t : Fin cfg0.N) (A : Out F) (X : Col F) (r : Fin 512) :
    (((cfg0.win 5).blk t).view.write (Elt F) A ((cfg0.win 5).cut (cfg0.grid.coords t) X) Finset.univ : Out F) (ix2 (rowOf t r) 0) = X (ix2 r 0) := by
  rw [← out_place t r]
  exact View.write_emb_of_mem (v := ((cfg0.win 5).blk t).view) A ((cfg0.win 5).cut (cfg0.grid.coords t) X) (Finset.mem_univ (ix2 r 0))

/-- A written block leaves the other block's rows. -/
theorem write_there (t u : Fin cfg0.N) (hne : t.val / 245 ≠ u.val / 245) (A : Out F) (X : Col F) (r : Fin 512) :
    (((cfg0.win 5).blk t).view.write (Elt F) A ((cfg0.win 5).cut (cfg0.grid.coords t) X) Finset.univ : Out F) (ix2 (rowOf u r) 0) = A (ix2 (rowOf u r) 0) := by
  refine View.write_of_not_mem (v := ((cfg0.win 5).blk t).view) A ((cfg0.win 5).cut (cfg0.grid.coords t) X) Finset.univ ?_
  intro hmem
  obtain ⟨y, -, hy⟩ := Finset.mem_map.1 hmem
  have h0 : ((win0_5.rect t).emb y (0 : Fin 2) : ℕ) = (rowOf u r).val := congrArg (fun i : S1024x1.Idx => (i 0).val) hy
  have h1 : ((win0_5.rect t).emb y (0 : Fin 2) : ℕ) = t.val / 245 * 512 + (y (0 : Fin 2)).val := by
    refine (Window.rect_emb_val win0_5 t y 0).trans ?_
    rw [at5]
    rfl
  have h2 : (y (0 : Fin 2)).val < 512 := (y (0 : Fin 2)).isLt
  have h3 : (rowOf u r).val = 512 * (u.val / 245) + r.val := rfl
  have := r.isLt
  omega

/-- After the write-backs below point `n` every block written so far is as the plan says. -/
theorem written (n : ℕ) (hn : n ≤ 490) (A : Out F) (hA : (rdats pl c).ArrAt 5 n A) (u : Fin cfg0.N) (hu : u.val < n) (hf : u.val % 245 = 244) :
    ∃ X : Col F, pl.O c u X ∧ ∀ r : Fin 512, A (ix2 (rowOf u r) 0) = X (ix2 r 0) := by
  induction n generalizing A with
  | zero => omega
  | succ n ih =>
    have e := RDat.ArrAt_succ (rd := rdats pl c) 5 (⟨n, by show n < 490; omega⟩ : Fin cfg0.N)
    have hA' : (if (cfg0.win 5).flush ⟨n, by show n < 490; omega⟩ then (rdats pl c).ArrStep 5 ⟨n, by show n < 490; omega⟩ ((rdats pl c).ArrAt 5 n) else (rdats pl c).ArrAt 5 n) A :=
      e ▸ hA
    by_cases hfl : n % 245 = 244
    · rw [if_pos ((flush0_5 ⟨n, by show n < 490; omega⟩).2 hfl)] at hA'
      obtain ⟨A0, X, h0, ⟨Y, -, hX⟩, rfl⟩ := hA'
      by_cases hun : u.val = n
      · subst hun
        exact ⟨X, hX hf, fun r => write_here _ A0 X r⟩
      · obtain ⟨X', hX', h'⟩ := ih (by omega) A0 h0 (by omega)
        exact ⟨X', hX', fun r => (write_there _ u (by show n / 245 ≠ _; omega) A0 X r).trans (h' r)⟩
    · rw [if_neg (fun h => hfl ((flush0_5 ⟨n, by show n < 490; omega⟩).1 h))] at hA'
      exact ih (by omega) A hA' (by omega)

/-- At the end every row is as the plan says. -/
theorem final_out {r : PUnit × MemSt nD τ sig (Elt F)} (h : RDat.FramePost (cfgs 0) (rdats pl) (V m) r) (u : Fin cfg0.N) (hf : u.val % 245 = 244) :
    ∃ X : Col F, pl.O c u X ∧ ∀ x : Fin 512, (r.2.mem ((c : Thread nD τ).loc main_v17) : Out F) (ix2 (rowOf u x) 0) = X (ix2 x 0) :=
  written pl c 490 le_rfl _ ((h c).1 5) u u.isLt hf

end Cert.KernelIdeal.Hand

end
-- ==== Proof.KernelIdeal.Read.lean ====
module

public import proofs.«01_k».proof.Proof.KernelIdeal.Step
public import proofs.«01_k».proof.Proof.Math.Scores
public import Idealize.ShloMosaic.Lib.Pointwise
public import Idealize.ShloMosaic.PureOps.Ideal

@[expose] public section

/-! # The steps' values read at one row and lane, on the extended reals -/

set_option maxRecDepth 16384

noncomputable section

namespace Cert.KernelIdeal.Hand

open Cert.KernelIdeal Cert.KernelIdeal.Gen
open Idealize.ShloMosaic
open Cert.Search Cert.Lanes Cert.Consts Cert.Scores

theorem shapeCast_lane (x : S512x2048.Idx → BitVec 32) (i : S512x2048.Idx) :
    shapeCast S512x2048 x shapeCasts_S512x2048_S512x2048 i = x i := by pointwise

theorem shapeCast_col (x : Col Ideal) (i : S512x1.Idx) :
    shapeCast S512x1 x shapeCasts_S512x1_S512x1 i = x i := by pointwise

/-- The bucket's word, as the kernel computes it. -/
def bword (p : ℕ) (x lo : EReal) : BitVec 32 :=
  Ideal.fptosi 32 (min (max ((x - lo) * ((1 / gap p : ℝ) : EReal)) 0) (Ideal.ofBits .f32 0x40FFC000#32))

theorem inv0 : Named.named (F := Ideal) κ "inv_step_0" (φ := .f32) 0x4044EC4F#32 = ((1 / gap 0 : ℝ) : EReal) := by
  show (((16777216 / 5452595 : ℝ)) : EReal) = _
  congr 1; unfold gap cell width; norm_num
theorem inv1 : Named.named (F := Ideal) κ "inv_step_1" (φ := .f32) 0x41C4EC4F#32 = ((1 / gap 1 : ℝ) : EReal) := by
  show (((134217728 / 5452595 : ℝ)) : EReal) = _
  congr 1; unfold gap cell width; norm_num
theorem inv2 : Named.named (F := Ideal) κ "inv_step_2" (φ := .f32) 0x4344EC4F#32 = ((1 / gap 2 : ℝ) : EReal) := by
  show (((1073741824 / 5452595 : ℝ)) : EReal) = _
  congr 1; unfold gap cell width; norm_num
theorem inv3 : Named.named (F := Ideal) κ "inv_step_3" (φ := .f32) 0x44C4EC4F#32 = ((1 / gap 3 : ℝ) : EReal) := by
  show (((8589934592 / 5452595 : ℝ)) : EReal) = _
  congr 1; unfold gap cell width; norm_num

variable (g : FVec Ideal S512x2048 .f32) (lo : Col Ideal) (r : Fin 512) (l : Fin 2048)

theorem pay42_read : k0_pay42 g lo (ix2 r l) = bword 0 (g (ix2 r l)) (lo (ix2 r 0)) := by
  unfold k0_pay42 bword; rw [← inv0]; pointwise; rfl
theorem pay72_read : k0_pay72 g lo (ix2 r l) = bword 1 (g (ix2 r l)) (lo (ix2 r 0)) := by
  unfold k0_pay72 bword; rw [← inv1]; pointwise; rfl
theorem pay102_read : k0_pay102 g lo (ix2 r l) = bword 2 (g (ix2 r l)) (lo (ix2 r 0)) := by
  unfold k0_pay102 bword; rw [← inv2]; pointwise; rfl
theorem pay139_read : k0_pay139 g lo (ix2 r l) = bword 3 (g (ix2 r l)) (lo (ix2 r 0)) := by
  unfold k0_pay139 bword; rw [← inv3]; pointwise; rfl

variable (a : S512x2048.Idx → BitVec 32)

theorem pay46_read : k0_pay46 g lo a (ix2 r l) = a (ix2 r l) + incLo (bword 0 (g (ix2 r l)) (lo (ix2 r 0))) := by
  rw [← pay42_read]; unfold k0_pay46; rw [shapeCast_lane]; rfl
theorem pay76_read : k0_pay76 g lo a (ix2 r l) = a (ix2 r l) + incLo (bword 1 (g (ix2 r l)) (lo (ix2 r 0))) := by
  rw [← pay72_read]; unfold k0_pay76; rw [shapeCast_lane]; rfl
theorem pay106_read : k0_pay106 g lo a (ix2 r l) = a (ix2 r l) + incLo (bword 2 (g (ix2 r l)) (lo (ix2 r 0))) := by
  rw [← pay102_read]; unfold k0_pay106; rw [shapeCast_lane]; rfl
theorem pay143_read : k0_pay143 g lo a (ix2 r l) = a (ix2 r l) + incLo (bword 3 (g (ix2 r l)) (lo (ix2 r 0))) := by
  rw [← pay139_read]; unfold k0_pay143; rw [shapeCast_lane]; rfl
theorem pay47_read : k0_pay47 g lo a (ix2 r l) = a (ix2 r l) + incHi (bword 0 (g (ix2 r l)) (lo (ix2 r 0))) := by
  rw [← pay42_read]; unfold k0_pay47; rw [shapeCast_lane]; rfl
theorem pay77_read : k0_pay77 g lo a (ix2 r l) = a (ix2 r l) + incHi (bword 1 (g (ix2 r l)) (lo (ix2 r 0))) := by
  rw [← pay72_read]; unfold k0_pay77; rw [shapeCast_lane]; rfl
theorem pay107_read : k0_pay107 g lo a (ix2 r l) = a (ix2 r l) + incHi (bword 2 (g (ix2 r l)) (lo (ix2 r 0))) := by
  rw [← pay102_read]; unfold k0_pay107; rw [shapeCast_lane]; rfl
theorem pay144_read : k0_pay144 g lo a (ix2 r l) = a (ix2 r l) + incHi (bword 3 (g (ix2 r l)) (lo (ix2 r 0))) := by
  rw [← pay139_read]; unfold k0_pay144; rw [shapeCast_lane]; rfl

variable (rr v : Vec Ideal S1x2048 .f32) (s : St Ideal)

theorem tally_acc0 {p : ℕ} (hp : p < 4) : (tally p g rr v s).acc0 (ix2 r l)
    = (s.acc0 (ix2 r l) : BitVec 32) + incLo (bword p (g (ix2 r l)) (s.lo (ix2 r 0))) := by
  interval_cases p
  · exact pay46_read g s.lo r l s.acc0
  · exact pay76_read g s.lo r l s.acc0
  · exact pay106_read g s.lo r l s.acc0
  · exact pay143_read g s.lo r l s.acc0

theorem tally_acc1 {p : ℕ} (hp : p < 4) : (tally p g rr v s).acc1 (ix2 r l)
    = (s.acc1 (ix2 r l) : BitVec 32) + incHi (bword p (g (ix2 r l)) (s.lo (ix2 r 0))) := by
  interval_cases p
  · exact pay47_read g s.lo r l s.acc1
  · exact pay77_read g s.lo r l s.acc1
  · exact pay107_read g s.lo r l s.acc1
  · exact pay144_read g s.lo r l s.acc1

theorem tally_lo {p : ℕ} (hp : p < 4) : (tally p g rr v s).lo = s.lo := by interval_cases p <;> rfl

/-- How many inner points still count 128, from the packed counts. -/
def jumps (a0 a1 : Vec Ideal S512x2048 .i32) : Col Ideal :=
  k0_pay28 (k0_pay15 a1) (k0_pay16 a1) (k0_pay17 a1) (k0_pay24 a0 (k0_pay18 a1) (k0_pay19 (F := Ideal) a0) k0_pay20)
    (k0_pay25 a0 (k0_pay18 a1) (k0_pay19 (F := Ideal) a0) k0_pay20) (k0_pay26 (k0_pay18 a1) (k0_pay19 (F := Ideal) a0) k0_pay20) (k0_pay27 (k0_pay18 a1))

theorem gap0 : Ideal.ofBits .f32 0x3EA66666#32 = ((gap 0 : ℝ) : EReal) := by
  rw [word_step0]; unfold gap width; norm_num
theorem gap1 : Ideal.ofBits .f32 0x3D266666#32 = ((gap 1 : ℝ) : EReal) := by
  rw [word_step1]; unfold gap width; norm_num
theorem gap2 : Ideal.ofBits .f32 0x3BA66666#32 = ((gap 2 : ℝ) : EReal) := by
  rw [word_step2]; unfold gap width; norm_num
theorem gap3 : Ideal.ofBits .f32 0x3A266666#32 = ((gap 3 : ℝ) : EReal) := by
  rw [word_cell]; unfold gap width; norm_num

theorem newLo_read (hlo : S512x1.Idx → EReal) (a0 a1 : Vec Ideal S512x2048 .i32) (i : S512x1.Idx) :
    newLo0 (F := Ideal) hlo a0 a1 i = hlo i + jumps a0 a1 i * ((gap 0 : ℝ) : EReal)
    ∧ newLo1 (F := Ideal) hlo a0 a1 i = hlo i + jumps a0 a1 i * ((gap 1 : ℝ) : EReal)
    ∧ newLo2 (F := Ideal) hlo a0 a1 i = hlo i + jumps a0 a1 i * ((gap 2 : ℝ) : EReal)
    ∧ newLo3 (F := Ideal) hlo a0 a1 i = hlo i + jumps a0 a1 i * ((gap 3 : ℝ) : EReal) := by
  rw [← gap0, ← gap1, ← gap2, ← gap3]
  exact ⟨rfl, rfl, rfl, rfl⟩

theorem finish_lo {p : ℕ} (hp : p < 4) : (finish p s).lo (ix2 r 0)
    = s.lo (ix2 r 0) + jumps s.acc0 s.acc1 (ix2 r 0) * ((gap p : ℝ) : EReal) := by
  have h := newLo_read s.lo s.acc0 s.acc1 (ix2 r 0)
  interval_cases p
  · exact (shapeCast_col (newLo0 s.lo s.acc0 s.acc1) (ix2 r 0)).trans h.1
  · exact (shapeCast_col (newLo1 s.lo s.acc0 s.acc1) (ix2 r 0)).trans h.2.1
  · exact (shapeCast_col (newLo2 s.lo s.acc0 s.acc1) (ix2 r 0)).trans h.2.2.1
  · exact (shapeCast_col (newLo3 s.lo s.acc0 s.acc1) (ix2 r 0)).trans h.2.2.2

theorem finish_tb : (finish 3 s).tb (ix2 r 0)
    = s.lo (ix2 r 0) + jumps s.acc0 s.acc1 (ix2 r 0) * ((gap 3 : ℝ) : EReal) :=
  (shapeCast_col (newLo3 s.lo s.acc0 s.acc1) (ix2 r 0)).trans (newLo_read s.lo s.acc0 s.acc1 (ix2 r 0)).2.2.2

theorem pay12_read (x z1 z2 z3 : FVec Ideal S512x1 .f32) : k0_pay12 x z1 z2 z3 (ix2 r 0) = x (ix2 r 0)
    + Ideal.ofBits .f32 0x3A266666#32 * max (Ideal.ofBits .f32 0x3F800000#32 - Ideal.div (z1 (ix2 r 0)) (max (z2 (ix2 r 0)) (z3 (ix2 r 0)))) 0 := by
  unfold k0_pay12; pointwise

theorem pay12_le (x z1 z2 z3 : FVec Ideal S512x1 .f32) : x (ix2 r 0) ≤ k0_pay12 x z1 z2 z3 (ix2 r 0) := by
  have h := pay12_read r x z1 z2 z3
  rw [gap3] at h
  have h0 : (0 : EReal) ≤ ((gap 3 : ℝ) : EReal) := by exact_mod_cast (gap_pos 3).le
  exact (le_add_of_nonneg_right (mul_nonneg h0 (le_max_right _ _))).trans h.symm.le

theorem finish_ta : ((finish 3 s).tb (ix2 r 0) : EReal) ≤ (finish 3 s).ta (ix2 r 0) :=
  (shapeCast_col (newLo3 s.lo s.acc0 s.acc1) (ix2 r 0)).le.trans (pay12_le r (newLo3 s.lo s.acc0 s.acc1) _ _ _)

end Cert.KernelIdeal.Hand

end
-- ==== Proof.KernelIdeal.Jump.lean ====
module

public import proofs.«01_k».proof.Proof.KernelIdeal.Read

@[expose] public section

/-! # How many inner points of an interval still count 128, from the packed counts -/

set_option maxRecDepth 16384

noncomputable section

namespace Cert.KernelIdeal.Hand

open Cert.KernelIdeal Cert.KernelIdeal.Gen
open Idealize.ShloMosaic
open Cert.Search Cert.Lanes Cert.Consts Cert.Scores

/-- A packed field of a word as a number. -/
def fld (k w : BitVec 32) : EReal := (((IntOp.andi (IntOp.shrsi .vector w k) 127#32).toInt : ℝ) : EReal)

variable (a0 a1 : Vec Ideal S512x2048 .i32) (r : Fin 512)

theorem pay15_read : k0_pay15 (F := Ideal) a1 (ix2 r 0) = ∑ x, fld 21#32 (a1 (ix2 r x)) := by
  unfold k0_pay15 fld; pointwise; rfl
theorem pay16_read : k0_pay16 (F := Ideal) a1 (ix2 r 0) = k0_pay15 (F := Ideal) a1 (ix2 r 0) + ∑ x, fld 14#32 (a1 (ix2 r x)) := by
  unfold k0_pay16 fld; pointwise; rfl
theorem pay17_read : k0_pay17 (F := Ideal) a1 (ix2 r 0) = k0_pay16 (F := Ideal) a1 (ix2 r 0) + ∑ x, fld 7#32 (a1 (ix2 r x)) := by
  unfold k0_pay17 fld; pointwise; rfl
theorem pay18_read : k0_pay18 (F := Ideal) a1 (ix2 r 0) = k0_pay17 (F := Ideal) a1 (ix2 r 0) + ∑ x, fld 0#32 (a1 (ix2 r x)) := by
  unfold k0_pay18 fld; pointwise; rfl

/-- A comparison with 128, as a number. -/
def tick (x : EReal) : EReal := if Ideal.ofBits .f32 0x43000000#32 ≤ x then 1 else 0

theorem jumps_read : jumps a0 a1 (ix2 r 0) =
    ((((((tick (k0_pay18 (F := Ideal) a1 (ix2 r 0) + ∑ x, fld 21#32 (a0 (ix2 r x)) + ∑ x, fld 14#32 (a0 (ix2 r x)) + ∑ x, fld 7#32 (a0 (ix2 r x)))
      + tick (k0_pay18 (F := Ideal) a1 (ix2 r 0) + ∑ x, fld 21#32 (a0 (ix2 r x)) + ∑ x, fld 14#32 (a0 (ix2 r x))))
      + tick (k0_pay18 (F := Ideal) a1 (ix2 r 0) + ∑ x, fld 21#32 (a0 (ix2 r x))))
      + tick (k0_pay18 (F := Ideal) a1 (ix2 r 0))) + tick (k0_pay17 (F := Ideal) a1 (ix2 r 0)))
      + tick (k0_pay16 (F := Ideal) a1 (ix2 r 0))) + tick (k0_pay15 (F := Ideal) a1 (ix2 r 0))) := by
  unfold jumps
  generalize k0_pay15 (F := Ideal) a1 = x1
  generalize k0_pay16 (F := Ideal) a1 = x2
  generalize k0_pay17 (F := Ideal) a1 = x3
  generalize k0_pay18 (F := Ideal) a1 = x4
  unfold k0_pay28 k0_pay24 k0_pay25 k0_pay26 k0_pay27 k0_pay23 k0_pay22 k0_pay21 k0_pay20 k0_pay19 tick fld
  pointwise
  rfl

theorem tick_nat (n : ℕ) : tick (((n : ℕ) : ℝ) : EReal) = ((ind n : ℝ) : EReal) := by
  unfold tick ind
  by_cases h : 128 ≤ n
  · rw [if_pos h, if_pos (by rw [word_128, EReal.coe_le_coe_iff]; exact_mod_cast h)]; simp
  · rw [if_neg h, if_neg (by rw [word_128, EReal.coe_le_coe_iff]; exact_mod_cast h)]; simp

variable (b : Fin 2048 → ℕ → ℕ)

theorem fld_sum {k : BitVec 32} {a : Vec Ideal S512x2048 .i32} {d : ℕ} (h : ∀ l, ((IntOp.andi (IntOp.shrsi .vector (a (ix2 r l)) k) 127#32).toInt : ℤ) = cnt (b l) 49 d) :
    ∑ x, fld k (a (ix2 r x)) = ((∑ l, cnt (b l) 49 d : ℕ) : ℝ) := by
  rw [Nat.cast_sum, coe_sum]
  refine Finset.sum_congr rfl fun l _ => ?_
  unfold fld
  rw [h l]
  norm_cast

theorem coe_add_nat (m n : ℕ) : (((m : ℕ) : ℝ) : EReal) + (((n : ℕ) : ℝ) : EReal) = (((m + n : ℕ) : ℝ) : EReal) := by
  push_cast; rfl

theorem jumps_eq (hb : ∀ l c, b l c ≤ 7) (h0 : ∀ l, (a0 (ix2 r l) : BitVec 32) = word (b l) 49 0) (h1 : ∀ l, (a1 (ix2 r l) : BitVec 32) = word (b l) 49 1) :
    jumps a0 a1 (ix2 r 0) = ((ind (∑ l, above (b l) 49 1) + ind (∑ l, above (b l) 49 2) + ind (∑ l, above (b l) 49 3) + ind (∑ l, above (b l) 49 4)
      + ind (∑ l, above (b l) 49 5) + ind (∑ l, above (b l) 49 6) + ind (∑ l, above (b l) 49 7) : ℕ) : ℝ) := by
  have e (j : ℕ) : ∑ l, above (b l) 49 j = ∑ l, above (b l) 49 (j + 1) + ∑ l, cnt (b l) 49 j := by
    rw [← Finset.sum_add_distrib]; exact Finset.sum_congr rfl fun l _ => above_eq (b l) j
  have e8 : ∑ l, above (b l) 49 8 = 0 := Finset.sum_eq_zero fun l _ => above_eight (b l) (hb l)
  have s7 := fld_sum r b (k := 21#32) (a := a1) (d := 7) fun l => by rw [h1 l]; exact field3 (b l) le_rfl 1
  have s6 := fld_sum r b (k := 14#32) (a := a1) (d := 6) fun l => by rw [h1 l]; exact field2 (b l) le_rfl 1
  have s5 := fld_sum r b (k := 7#32) (a := a1) (d := 5) fun l => by rw [h1 l]; exact field1 (b l) le_rfl 1
  have s4 := fld_sum r b (k := 0#32) (a := a1) (d := 4) fun l => by rw [h1 l]; exact field0 (b l) le_rfl 1
  have s3 := fld_sum r b (k := 21#32) (a := a0) (d := 3) fun l => by rw [h0 l]; exact field3 (b l) le_rfl 0
  have s2 := fld_sum r b (k := 14#32) (a := a0) (d := 2) fun l => by rw [h0 l]; exact field2 (b l) le_rfl 0
  have s1 := fld_sum r b (k := 7#32) (a := a0) (d := 1) fun l => by rw [h0 l]; exact field1 (b l) le_rfl 0
  rw [jumps_read, pay18_read, pay17_read, pay16_read, pay15_read, s7, s6, s5, s4, s3, s2, s1]
  have e7 := e 7
  rw [e8, zero_add] at e7
  rw [← e7]
  simp only [coe_add_nat, ← e, tick_nat]

end Cert.KernelIdeal.Hand

end
-- ==== Proof.KernelIdeal.Sums.lean ====
module

public import proofs.«01_k».proof.Proof.KernelIdeal.Jump
public import proofs.«01_k».proof.Proof.Math.RowSums

@[expose] public section

/-! # The last phase's sums and the result, read at one row -/

set_option maxRecDepth 16384

noncomputable section

namespace Cert.KernelIdeal.Hand

open Cert.KernelIdeal Cert.KernelIdeal.Gen
open Idealize.ShloMosaic

variable (g : FVec Ideal S512x2048 .f32) (rr v : FVec Ideal S1x2048 .f32) (ta tb x : FVec Ideal S512x1 .f32) (r : Fin 512)

theorem pay155_read : k0_pay155 g rr v ta tb x (ix2 r 0) = x (ix2 r 0) + ∑ l : Fin 2048,
    (if ta (ix2 r 0) ≤ g (ix2 r l) then if tb (ix2 r 0) ≤ g (ix2 r l) then Ideal.exp (g (ix2 r l)) * rr (ix2 0 l) else 0 else 0) * v (ix2 0 l) := by
  unfold k0_pay155 k0_pay154 k0_pay153 k0_pay152; pointwise
theorem pay156_read : k0_pay156 g rr ta tb x (ix2 r 0) = x (ix2 r 0) + ∑ l : Fin 2048,
    if ta (ix2 r 0) ≤ g (ix2 r l) then if tb (ix2 r 0) ≤ g (ix2 r l) then Ideal.exp (g (ix2 r l)) * rr (ix2 0 l) else 0 else 0 := by
  unfold k0_pay156 k0_pay154 k0_pay153; pointwise
theorem pay157_read : k0_pay157 (k0_pay152 v) (k0_pay153 g rr tb) x (ix2 r 0) = x (ix2 r 0) + ∑ l : Fin 2048,
    (if tb (ix2 r 0) ≤ g (ix2 r l) then Ideal.exp (g (ix2 r l)) * rr (ix2 0 l) else 0) * v (ix2 0 l) := by
  unfold k0_pay157 k0_pay153 k0_pay152; pointwise
theorem pay158_read : k0_pay158 (k0_pay153 g rr tb) x (ix2 r 0) = x (ix2 r 0) + ∑ l : Fin 2048,
    if tb (ix2 r 0) ≤ g (ix2 r l) then Ideal.exp (g (ix2 r l)) * rr (ix2 0 l) else 0 := by
  unfold k0_pay158 k0_pay153; pointwise
theorem pay159_read : k0_pay159 g ta x (ix2 r 0) = x (ix2 r 0) + ∑ l : Fin 2048, if ta (ix2 r 0) ≤ g (ix2 r l) then 1 else 0 := by
  unfold k0_pay159; pointwise
theorem pay13_read : k0_pay13 x (k0_pay160 g tb) (ix2 r 0) = x (ix2 r 0) + ∑ l : Fin 2048, if tb (ix2 r 0) ≤ g (ix2 r l) then 1 else 0 := by
  unfold k0_pay13 k0_pay160; pointwise

variable (na nl ml ma dl da : FVec Ideal S512x1 .f32)

theorem pay14_read : k0_pay14 (F := Ideal) na nl ml ma dl da ma da (ix2 r 0) =
    Ideal.div (ma (ix2 r 0) + min 1 (max 0 (Ideal.div (Ideal.ofBits .f32 0x43000000#32 - na (ix2 r 0)) (max (nl (ix2 r 0) - na (ix2 r 0)) 1)))
        * (ml (ix2 r 0) - ma (ix2 r 0)))
      (da (ix2 r 0) + min 1 (max 0 (Ideal.div (Ideal.ofBits .f32 0x43000000#32 - na (ix2 r 0)) (max (nl (ix2 r 0) - na (ix2 r 0)) 1)))
        * (dl (ix2 r 0) - da (ix2 r 0))) := by
  unfold k0_pay14; pointwise

theorem zeros_read : k0_pay146 (F := Ideal) (ix2 r 0) = 0 ∧ k0_pay147 (F := Ideal) (ix2 r 0) = 0 ∧ k0_pay148 (F := Ideal) (ix2 r 0) = 0
    ∧ k0_pay149 (F := Ideal) (ix2 r 0) = 0 ∧ k0_pay150 (F := Ideal) (ix2 r 0) = 0 ∧ k0_pay151 (F := Ideal) (ix2 r 0) = 0 := by
  unfold k0_pay146 k0_pay147 k0_pay148 k0_pay149 k0_pay150 k0_pay151 k0_pay145
  refine ⟨?_, ?_, ?_, ?_, ?_, ?_⟩ <;> pointwise

theorem start_read : k0_pay37 (F := Ideal) (ix2 r 0) = Ideal.ofBits .f32 0xC14CCCCD#32 := by
  unfold k0_pay37; pointwise

theorem clear_read (l : Fin 2048) : shapeCast S512x2048 (broadcast S512x2048 (0#32 : BitVec 32)) shapeCasts_S512x2048_S512x2048 (ix2 r l) = 0#32 :=
  shapeCast_lane _ _

theorem reset_acc {p : ℕ} (hp : p < 4) (s : St Ideal) (l : Fin 2048) :
    ((reset p s).acc0 (ix2 r l) : BitVec 32) = 0#32 ∧ ((reset p s).acc1 (ix2 r l) : BitVec 32) = 0#32 := by
  have h := clear_read r l
  interval_cases p <;> exact ⟨h, h⟩

end Cert.KernelIdeal.Hand

end
-- ==== Proof.KernelIdeal.Count.lean ====
module

public import proofs.«01_k».proof.Proof.KernelIdeal.Jump

@[expose] public section

/-! # The counts at the ends of the new interval, and the upper threshold -/

set_option maxRecDepth 16384

noncomputable section

namespace Cert.KernelIdeal.Hand

open Cert.KernelIdeal Cert.KernelIdeal.Gen
open Idealize.ShloMosaic
open Cert.Search Cert.Lanes Cert.Consts Cert.Scores

/-- `y` where `x` is the number of the word `w`, else zero. -/
def pick (w : BitVec 32) (x y : EReal) : EReal := if x = Ideal.ofBits .f32 w then y else 0

variable (a0 a1 : Vec Ideal S512x2048 .i32) (c : Col Ideal) (r : Fin 512)

/-- The counts of the scores in the buckets from `j` on, as the kernel sums them. -/
def tail7 : EReal := k0_pay15 (F := Ideal) a1 (ix2 r 0)
def tail6 : EReal := k0_pay16 (F := Ideal) a1 (ix2 r 0)
def tail5 : EReal := k0_pay17 (F := Ideal) a1 (ix2 r 0)
def tail4 : EReal := k0_pay18 (F := Ideal) a1 (ix2 r 0)
def tail3 : EReal := k0_pay18 (F := Ideal) a1 (ix2 r 0) + ∑ x, fld 21#32 (a0 (ix2 r x))
def tail2 : EReal := tail3 a0 a1 r + ∑ x, fld 14#32 (a0 (ix2 r x))
def tail1 : EReal := tail2 a0 a1 r + ∑ x, fld 7#32 (a0 (ix2 r x))

theorem newLw_read : newLw0 c a0 a1 (ix2 r 0) =
    pick 0x00000000#32 (jumps a0 a1 (ix2 r 0)) (c (ix2 r 0))
    + pick 0x3F800000#32 (jumps a0 a1 (ix2 r 0)) (tail1 a0 a1 r)
    + pick 0x40000000#32 (jumps a0 a1 (ix2 r 0)) (tail2 a0 a1 r)
    + pick 0x40400000#32 (jumps a0 a1 (ix2 r 0)) (tail3 a0 a1 r)
    + pick 0x40800000#32 (jumps a0 a1 (ix2 r 0)) (tail4 a1 r)
    + pick 0x40A00000#32 (jumps a0 a1 (ix2 r 0)) (tail5 a1 r)
    + pick 0x40C00000#32 (jumps a0 a1 (ix2 r 0)) (tail6 a1 r)
    + pick 0x40E00000#32 (jumps a0 a1 (ix2 r 0)) (tail7 a1 r) := by
  unfold newLw0 jumps tail1 tail2 tail3 tail4 tail5 tail6 tail7
  generalize k0_pay15 (F := Ideal) a1 = x1
  generalize k0_pay16 (F := Ideal) a1 = x2
  generalize k0_pay17 (F := Ideal) a1 = x3
  generalize k0_pay18 (F := Ideal) a1 = x4
  unfold k0_pay34 k0_pay30 k0_pay32 k0_pay33
  generalize k0_pay28 x1 x2 x3 _ _ _ _ = y
  unfold k0_pay23 k0_pay22 k0_pay21 k0_pay20 k0_pay19 fld pick
  pointwise
  rfl

theorem newHi_read : newHi0 c a0 a1 (ix2 r 0) =
    pick 0x40E00000#32 (jumps a0 a1 (ix2 r 0)) (c (ix2 r 0))
    + pick 0x00000000#32 (jumps a0 a1 (ix2 r 0)) (tail1 a0 a1 r)
    + pick 0x3F800000#32 (jumps a0 a1 (ix2 r 0)) (tail2 a0 a1 r)
    + pick 0x40000000#32 (jumps a0 a1 (ix2 r 0)) (tail3 a0 a1 r)
    + pick 0x40400000#32 (jumps a0 a1 (ix2 r 0)) (tail4 a1 r)
    + pick 0x40800000#32 (jumps a0 a1 (ix2 r 0)) (tail5 a1 r)
    + pick 0x40A00000#32 (jumps a0 a1 (ix2 r 0)) (tail6 a1 r)
    + pick 0x40C00000#32 (jumps a0 a1 (ix2 r 0)) (tail7 a1 r) := by
  unfold newHi0 jumps tail1 tail2 tail3 tail4 tail5 tail6 tail7
  generalize k0_pay15 (F := Ideal) a1 = x1
  generalize k0_pay16 (F := Ideal) a1 = x2
  generalize k0_pay17 (F := Ideal) a1 = x3
  generalize k0_pay18 (F := Ideal) a1 = x4
  unfold k0_pay3 k0_pay35 k0_pay31 k0_pay36
  generalize k0_pay28 x1 x2 x3 _ _ _ _ = y
  unfold k0_pay23 k0_pay22 k0_pay21 k0_pay20 k0_pay19 fld pick
  pointwise
  rfl

theorem same_lw : newLw1 c a0 a1 = newLw0 c a0 a1 ∧ newLw2 c a0 a1 = newLw0 c a0 a1 ∧ newLw3 c a0 a1 = newLw0 c a0 a1 :=
  ⟨rfl, rfl, rfl⟩
theorem same_hi : newHi1 c a0 a1 = newHi0 c a0 a1 ∧ newHi2 c a0 a1 = newHi0 c a0 a1 ∧ newHi3 c a0 a1 = newHi0 c a0 a1 :=
  ⟨rfl, rfl, rfl⟩

variable (s : St Ideal)

theorem finish_lw {p : ℕ} (hp : p < 4) : (finish p s).lw (ix2 r 0) = newLw0 s.lw s.acc0 s.acc1 (ix2 r 0) := by
  interval_cases p
  · exact shapeCast_col (newLw0 s.lw s.acc0 s.acc1) (ix2 r 0)
  · exact (shapeCast_col (newLw1 s.lw s.acc0 s.acc1) (ix2 r 0)).trans (congrFun (same_lw s.acc0 s.acc1 s.lw).1 _)
  · exact (shapeCast_col (newLw2 s.lw s.acc0 s.acc1) (ix2 r 0)).trans (congrFun (same_lw s.acc0 s.acc1 s.lw).2.1 _)
  · exact (shapeCast_col (newLw3 s.lw s.acc0 s.acc1) (ix2 r 0)).trans (congrFun (same_lw s.acc0 s.acc1 s.lw).2.2 _)

theorem finish_hi {p : ℕ} (hp : p < 4) : (finish p s).hi (ix2 r 0) = newHi0 s.hi s.acc0 s.acc1 (ix2 r 0) := by
  have h := same_hi s.acc0 s.acc1 s.hi
  interval_cases p
  · rfl
  · exact congrFun h.1 _
  · exact congrFun h.2.1 _
  · exact congrFun h.2.2 _

/-- The upper threshold, from the new lower end and the counts at the two ends. -/
theorem finish_ta_read : ((finish 3 s).ta (ix2 r 0) : EReal) = (s.lo (ix2 r 0) + jumps s.acc0 s.acc1 (ix2 r 0) * ((gap 3 : ℝ) : EReal))
    + (cell : EReal) * max (1 - Ideal.div (max (((128 : ℝ) : EReal) - newHi0 s.hi s.acc0 s.acc1 (ix2 r 0)) 0)
        (max (newLw0 s.lw s.acc0 s.acc1 (ix2 r 0) - newHi0 s.hi s.acc0 s.acc1 (ix2 r 0)) 1)) 0 := by
  rw [← (newLo_read s.lo s.acc0 s.acc1 (ix2 r 0)).2.2.2, ← (same_lw s.acc0 s.acc1 s.lw).2.2, ← (same_hi s.acc0 s.acc1 s.hi).2.2, ← word_128, ← word_cell]
  refine (pay12_read r (newLo3 s.lo s.acc0 s.acc1) _ _ _).trans ?_
  unfold newHi3 k0_pay132 k0_pay134 k0_pay135 k0_pay136
  rw [shapeCast_col]
  generalize newLw3 s.lw s.acc0 s.acc1 = L
  generalize k0_pay130 (F := Ideal) _ _ _ _ _ _ _ _ = U
  generalize newLo3 s.lo s.acc0 s.acc1 = N
  pointwise

theorem pick_nat {w : BitVec 32} {n : ℕ} (hw : Ideal.ofBits .f32 w = (((n : ℕ) : ℝ) : EReal)) (k : ℕ) (y : EReal) :
    pick w (((k : ℕ) : ℝ) : EReal) y = if k = n then y else 0 := by
  unfold pick
  rw [hw]
  exact if_congr (by rw [EReal.coe_eq_coe_iff, Nat.cast_inj]) rfl rfl

theorem w0 : Ideal.ofBits .f32 0x00000000#32 = (((0 : ℕ) : ℝ) : EReal) := by
  simp [Ideal.ofBits, Ideal.ieee, -EReal.coe_mul]
theorem w1 : Ideal.ofBits .f32 0x3F800000#32 = (((1 : ℕ) : ℝ) : EReal) := by
  simp [Ideal.ofBits, Ideal.ieee, -EReal.coe_mul]; norm_num
theorem w2 : Ideal.ofBits .f32 0x40000000#32 = (((2 : ℕ) : ℝ) : EReal) := by
  simp [Ideal.ofBits, Ideal.ieee, -EReal.coe_mul]; norm_num
theorem w3 : Ideal.ofBits .f32 0x40400000#32 = (((3 : ℕ) : ℝ) : EReal) := by
  simp [Ideal.ofBits, Ideal.ieee, -EReal.coe_mul]; norm_num
theorem w4 : Ideal.ofBits .f32 0x40800000#32 = (((4 : ℕ) : ℝ) : EReal) := by
  simp [Ideal.ofBits, Ideal.ieee, -EReal.coe_mul]; norm_num
theorem w5 : Ideal.ofBits .f32 0x40A00000#32 = (((5 : ℕ) : ℝ) : EReal) := by
  simp [Ideal.ofBits, Ideal.ieee, -EReal.coe_mul]; norm_num
theorem w6 : Ideal.ofBits .f32 0x40C00000#32 = (((6 : ℕ) : ℝ) : EReal) := by
  simp [Ideal.ofBits, Ideal.ieee, -EReal.coe_mul]; norm_num
theorem w7 : Ideal.ofBits .f32 0x40E00000#32 = (((7 : ℕ) : ℝ) : EReal) := by
  simp [Ideal.ofBits, Ideal.ieee, -EReal.coe_mul]; norm_num

variable (b : Fin 2048 → ℕ → ℕ)

/-- How many of the row's scores have bucket at least `j`. -/
def tailN (j : ℕ) : ℕ := ∑ l, above (b l) 49 j

theorem tails (hb : ∀ l c, b l c ≤ 7) (h0 : ∀ l, (a0 (ix2 r l) : BitVec 32) = word (b l) 49 0) (h1 : ∀ l, (a1 (ix2 r l) : BitVec 32) = word (b l) 49 1) :
    tail1 a0 a1 r = ((tailN b 1 : ℕ) : ℝ) ∧ tail2 a0 a1 r = ((tailN b 2 : ℕ) : ℝ) ∧ tail3 a0 a1 r = ((tailN b 3 : ℕ) : ℝ)
      ∧ tail4 a1 r = ((tailN b 4 : ℕ) : ℝ) ∧ tail5 a1 r = ((tailN b 5 : ℕ) : ℝ) ∧ tail6 a1 r = ((tailN b 6 : ℕ) : ℝ)
      ∧ tail7 a1 r = ((tailN b 7 : ℕ) : ℝ) := by
  have e (j : ℕ) : tailN b j = tailN b (j + 1) + ∑ l, cnt (b l) 49 j := by
    unfold tailN
    rw [← Finset.sum_add_distrib]; exact Finset.sum_congr rfl fun l _ => above_eq (b l) j
  have e8 : tailN b 8 = 0 := Finset.sum_eq_zero fun l _ => above_eight (b l) (hb l)
  have s7 := fld_sum r b (k := 21#32) (a := a1) (d := 7) fun l => by rw [h1 l]; exact field3 (b l) le_rfl 1
  have s6 := fld_sum r b (k := 14#32) (a := a1) (d := 6) fun l => by rw [h1 l]; exact field2 (b l) le_rfl 1
  have s5 := fld_sum r b (k := 7#32) (a := a1) (d := 5) fun l => by rw [h1 l]; exact field1 (b l) le_rfl 1
  have s4 := fld_sum r b (k := 0#32) (a := a1) (d := 4) fun l => by rw [h1 l]; exact field0 (b l) le_rfl 1
  have s3 := fld_sum r b (k := 21#32) (a := a0) (d := 3) fun l => by rw [h0 l]; exact field3 (b l) le_rfl 0
  have s2 := fld_sum r b (k := 14#32) (a := a0) (d := 2) fun l => by rw [h0 l]; exact field2 (b l) le_rfl 0
  have s1 := fld_sum r b (k := 7#32) (a := a0) (d := 1) fun l => by rw [h0 l]; exact field1 (b l) le_rfl 0
  have e7 := e 7
  rw [e8, zero_add] at e7
  unfold tail1 tail2 tail3 tail4 tail5 tail6 tail7
  rw [pay18_read, pay17_read, pay16_read, pay15_read, s7, s6, s5, s4, s3, s2, s1]
  rw [← e7]
  simp only [coe_add_nat, ← e, and_self]

theorem sum_lw (f : ℕ → EReal) (x : EReal) {k : ℕ} (hk : k ≤ 7) :
    (if k = 0 then x else 0) + (if k = 1 then f 1 else 0) + (if k = 2 then f 2 else 0) + (if k = 3 then f 3 else 0) + (if k = 4 then f 4 else 0)
      + (if k = 5 then f 5 else 0) + (if k = 6 then f 6 else 0) + (if k = 7 then f 7 else 0) = if k = 0 then x else f k := by
  interval_cases k <;> simp

theorem sum_hi (f : ℕ → EReal) (x : EReal) {k : ℕ} (hk : k ≤ 7) :
    (if k = 7 then x else 0) + (if k = 0 then f 1 else 0) + (if k = 1 then f 2 else 0) + (if k = 2 then f 3 else 0) + (if k = 3 then f 4 else 0)
      + (if k = 4 then f 5 else 0) + (if k = 5 then f 6 else 0) + (if k = 6 then f 7 else 0) = if k = 7 then x else f (k + 1) := by
  interval_cases k <;> simp

variable {k : ℕ} (hk : k ≤ 7) (hj : jumps a0 a1 (ix2 r 0) = (((k : ℕ) : ℝ) : EReal)) (hb : ∀ l c, b l c ≤ 7)
  (h0 : ∀ l, (a0 (ix2 r l) : BitVec 32) = word (b l) 49 0) (h1 : ∀ l, (a1 (ix2 r l) : BitVec 32) = word (b l) 49 1)
include hk hj hb h0 h1

theorem newLw_eq : newLw0 c a0 a1 (ix2 r 0) = if k = 0 then c (ix2 r 0) else (((tailN b k : ℕ) : ℝ) : EReal) := by
  obtain ⟨t1, t2, t3, t4, t5, t6, t7⟩ := tails a0 a1 r b hb h0 h1
  rw [newLw_read, hj, t1, t2, t3, t4, t5, t6, t7, pick_nat w0, pick_nat w1, pick_nat w2, pick_nat w3, pick_nat w4, pick_nat w5, pick_nat w6, pick_nat w7]
  exact sum_lw (fun j => (((tailN b j : ℕ) : ℝ) : EReal)) (c (ix2 r 0)) hk

theorem newHi_eq : newHi0 c a0 a1 (ix2 r 0) = if k = 7 then c (ix2 r 0) else (((tailN b (k + 1) : ℕ) : ℝ) : EReal) := by
  obtain ⟨t1, t2, t3, t4, t5, t6, t7⟩ := tails a0 a1 r b hb h0 h1
  rw [newHi_read, hj, t1, t2, t3, t4, t5, t6, t7, pick_nat w0, pick_nat w1, pick_nat w2, pick_nat w3, pick_nat w4, pick_nat w5, pick_nat w6, pick_nat w7]
  exact sum_hi (fun j => (((tailN b j : ℕ) : ℝ) : EReal)) (c (ix2 r 0)) hk

end Cert.KernelIdeal.Hand

end
-- ==== Proof.KernelIdeal.Rows.lean ====
module

public import proofs.«01_k».proof.Proof.KernelIdeal.Sums
public import proofs.«01_k».proof.Proof.KernelIdeal.Count

@[expose] public section

/-! # What a row's state is at every grid point, and the result it leads to -/

set_option maxRecDepth 16384

noncomputable section

namespace Cert.KernelIdeal.Hand

open Cert.KernelIdeal Cert.KernelIdeal.Gen
open Idealize.ShloMosaic
open Cert.Search Cert.Lanes Cert.Consts Cert.Scores Cert.RowSums

variable (G : Row) (X W Y : ℕ → Fin 2048 → EReal) (r : Fin 512)

/-- The last threshold that at least 128 of the row's scores reach. -/
def top : ℕ := last (reach G)

/-- The lower end of the row's interval in phase `p`. -/
def lower (p : ℕ) : ℝ := thr (base p (top G))

/-- The upper threshold: how far between `top` and the next one 128 scores would be reached, were the scores between evenly
    spaced. -/
def inner : ℝ := thr (top G) + cell * (((reach G (top G) : ℝ) - 128) / ((reach G (top G) : ℝ) - (reach G (top G + 1) : ℝ)))

/-- The row's top 128 scores are those that reach its upper threshold: the last threshold itself, or a point after it if it
    is neither the first nor the last of all. -/
def Settled : Prop := 128 ≤ reach G (top G) ∧ cntN G (inner G : EReal) 49 = 128 ∧ (reach G (top G) = 128 ∨ top G ≠ 0 ∧ top G ≠ 4095)

/-- The counts at the interval's two ends, where the ends are not those of the first interval. -/
def Counts (p : ℕ) (s : St Ideal) : Prop :=
  (base p (top G) ≠ 0 → (s.lw (ix2 r 0) : EReal) = ((reach G (base p (top G)) : ℕ) : ℝ))
    ∧ (base p (top G) + 8 ^ (4 - p) ≠ 4096 → (s.hi (ix2 r 0) : EReal) = ((reach G (base p (top G) + 8 ^ (4 - p)) : ℕ) : ℝ))

/-- The packed counts of `n` chunks in phase `p`. -/
def Packed (p n : ℕ) (s : St Ideal) : Prop := ∀ l : Fin 2048,
  (s.acc0 (ix2 r l) : BitVec 32) = word (fun c => bucket p (lower G p) (G c l)) n 0
    ∧ (s.acc1 (ix2 r l) : BitVec 32) = word (fun c => bucket p (lower G p) (G c l)) n 1

/-- The six sums over `n` chunks: of the scores `X`, the ratios `W` and the values `Y`. -/
structure Summed (n : ℕ) (s : St Ideal) : Prop where
  numa : (s.numa (ix2 r 0) : EReal) = numE (s.ta (ix2 r 0)) X W Y n
  dena : (s.dena (ix2 r 0) : EReal) = denE (s.ta (ix2 r 0)) X W n
  numl : (s.numl (ix2 r 0) : EReal) = numE (s.tb (ix2 r 0)) X W Y n
  denl : (s.denl (ix2 r 0) : EReal) = denE (s.tb (ix2 r 0)) X W n
  cnta : (s.cnta (ix2 r 0) : EReal) = ((cntN G (s.ta (ix2 r 0)) n : ℕ) : ℝ)
  cntl : (s.cntl (ix2 r 0) : EReal) = ((cntN G (s.tb (ix2 r 0)) n : ℕ) : ℝ)

/-- The two thresholds after phase 3. -/
def Ends (s : St Ideal) : Prop := (s.tb (ix2 r 0) : EReal) = thr (top G) ∧ (s.tb (ix2 r 0) : EReal) ≤ s.ta (ix2 r 0)
  ∧ (s.ta (ix2 r 0) : EReal) ≤ 0 ∧ (top G ≠ 0 → top G ≠ 4095 → (s.ta (ix2 r 0) : EReal) = inner G)

/-- The row's state when `n` chunks of phase `p` are done. -/
def Inv (p n : ℕ) (s : St Ideal) : Prop :=
  (p < 4 → (p ≠ 0 ∨ n ≠ 0 → (s.lo (ix2 r 0) : EReal) = lower G p) ∧ (n ≠ 0 → Packed G r p n s) ∧ Counts G r p s)
    ∧ (p = 4 → Ends G r s ∧ (n ≠ 0 → Summed G X W Y r n s))

variable {G X W Y r} {p n : ℕ} {s : St Ideal}

theorem seed_lo (hp : p < 4) (h : Inv G X W Y r p n s) : ((seed p n s).lo (ix2 r 0) : EReal) = lower G p := by
  unfold seed
  split
  · rename_i hn
    interval_cases p
    · refine (start_read r).trans ?_
      unfold lower top
      rw [base_zero last_le, word_low]
      simp [thr]
    all_goals exact (h.1 (by decide)).1 (.inl (by decide))
  · rename_i hn
    exact (h.1 hp).1 (.inr hn)

theorem seed_packed (hp : p < 4) (h : Inv G X W Y r p n s) : Packed G r p n (seed p n s) := by
  unfold seed
  split
  · rename_i hn
    subst hn
    intro l
    rw [word_zero, word_zero]
    exact reset_acc r hp s l
  · rename_i hn
    exact (h.1 hp).2.1 hn

theorem counts_zero (s : St Ideal) : Counts G r 0 s := by
  have hb : base 0 (top G) = 0 := base_zero last_le
  exact ⟨fun h => absurd hb h, fun h => absurd (by rw [hb]; rfl) h⟩

theorem seed_counts (hp : p < 4) (h : Inv G X W Y r p n s) : Counts G r p (seed p n s) := by
  unfold seed
  split
  · interval_cases p
    · exact counts_zero _
    all_goals exact (h.1 (by decide)).2.2
  · exact (h.1 hp).2.2

theorem tally_counts {g : FVec Ideal S512x2048 .f32} {rr v : FVec Ideal S1x2048 .f32} (hp : p < 4) (h : Counts G r p s) :
    Counts G r p (tally p g rr v s) := by
  interval_cases p <;> exact h

variable {g : FVec Ideal S512x2048 .f32} {rr v : FVec Ideal S1x2048 .f32}

theorem bword_eq (p : ℕ) {lo y : ℝ} {x : EReal} (hlo : low ≤ lo) (hlo' : lo ≤ -10) (h : Reads x y) : bword p x lo = BitVec.ofNat 32 (bucket p lo y) :=
  bucket_reads p hlo hlo' h

theorem low_le_lower (p : ℕ) : low ≤ lower G p := low_le_thr _

theorem lower_le (p : ℕ) : lower G p ≤ -10 :=
  thr_le ((Nat.mul_div_le _ _).trans (last_le.trans (by norm_num)))

theorem tally_packed (hp : p < 4) (hg : ∀ l, Reads (g (ix2 r l)) (G n l)) (hlo : (s.lo (ix2 r 0) : EReal) = lower G p)
    (h : Packed G r p n s) : Packed G r p (n + 1) (tally p g rr v s) := by
  intro l
  have e0 := tally_acc0 g r l rr v s hp
  have e1 := tally_acc1 g r l rr v s hp
  rw [hlo, bword_eq p (low_le_lower p) (lower_le p) (hg l), (h l).1, incLo_eq (bucket_le _ _ _), ← word_succ (fun c => bucket p (lower G p) (G c l))] at e0
  rw [hlo, bword_eq p (low_le_lower p) (lower_le p) (hg l), (h l).2, incHi_eq (bucket_le _ _ _), ← word_succ (fun c => bucket p (lower G p) (G c l))] at e1
  exact ⟨e0, e1⟩

/-- The interval's lower end, moved by the jumps counted. -/
theorem lower_succ (hsep : 128 ≤ reach G (top G)) (hp : p < 4) (hlo : (s.lo (ix2 r 0) : EReal) = lower G p)
    (h : Packed G r p 49 s) :
    (s.lo (ix2 r 0) : EReal) + jumps s.acc0 s.acc1 (ix2 r 0) * ((gap p : ℝ) : EReal) = lower G (p + 1) := by
  rw [jumps_eq s.acc0 s.acc1 r (fun l c => bucket p (lower G p) (G c l)) (fun l c => bucket_le _ _ _) (fun l => (h l).1) (fun l => (h l).2), hlo]
  have e (j : ℕ) (h1 : 1 ≤ j) (h7 : j ≤ 7) : ∑ l, above (fun c => bucket p (lower G p) (G c l)) 49 j = reach G (base p (top G) + j * width p) :=
    sumAbove_eq G p _ h1 h7
  rw [e 1 (by decide) (by decide), e 2 (by decide) (by decide), e 3 (by decide) (by decide), e 4 (by decide) (by decide),
    e 5 (by decide) (by decide), e 6 (by decide) (by decide), e 7 (by decide) (by decide)]
  clear h hlo e
  have hs := sum_ind (reach_anti G) hsep hp
  unfold lower
  rw [base_succ hp, thr_add, EReal.coe_add, EReal.coe_mul]
  exact congrArg (fun k : ℕ => ((thr (base p (top G)) : ℝ) : EReal) + ((k : ℝ) : EReal) * ((gap p : ℝ) : EReal)) hs

/-- The jump counted. -/
theorem jumps_val (hsep : 128 ≤ reach G (top G)) (hp : p < 4) (h : Packed G r p 49 s) :
    jumps s.acc0 s.acc1 (ix2 r 0) = (((jump p (top G) : ℕ) : ℝ) : EReal) := by
  rw [jumps_eq s.acc0 s.acc1 r (fun l c => bucket p (lower G p) (G c l)) (fun l c => bucket_le _ _ _) (fun l => (h l).1) (fun l => (h l).2)]
  have e (j : ℕ) (h1 : 1 ≤ j) (h7 : j ≤ 7) : ∑ l, above (fun c => bucket p (lower G p) (G c l)) 49 j = reach G (base p (top G) + j * width p) :=
    sumAbove_eq G p _ h1 h7
  rw [e 1 (by decide) (by decide), e 2 (by decide) (by decide), e 3 (by decide) (by decide), e 4 (by decide) (by decide),
    e 5 (by decide) (by decide), e 6 (by decide) (by decide), e 7 (by decide) (by decide)]
  exact congrArg (fun k : ℕ => ((k : ℝ) : EReal)) (sum_ind (reach_anti G) hsep hp)

/-- The counts at the ends of the new interval. -/
theorem counts_succ (hsep : 128 ≤ reach G (top G)) (hp : p < 4) (h : Packed G r p 49 s) (hc : Counts G r p s) :
    Counts G r (p + 1) (finish p s) := by
  have hj := jumps_val hsep hp h
  have h7 := jump_le p (top G)
  have hl := newLw_eq s.acc0 s.acc1 s.lw r (fun l c => bucket p (lower G p) (G c l)) h7 hj (fun l c => bucket_le _ _ _) (fun l => (h l).1) (fun l => (h l).2)
  have hu := newHi_eq s.acc0 s.acc1 s.hi r (fun l c => bucket p (lower G p) (G c l)) h7 hj (fun l c => bucket_le _ _ _) (fun l => (h l).1) (fun l => (h l).2)
  have e (j : ℕ) (h1 : 1 ≤ j) (h7 : j ≤ 7) : tailN (fun l c => bucket p (lower G p) (G c l)) j = reach G (base p (top G) + j * width p) :=
    sumAbove_eq G p _ h1 h7
  unfold Counts
  rw [finish_lw _ _ hp, finish_hi _ _ hp, hl, hu, upper_succ hp, base_succ hp]
  refine ⟨fun h0 => ?_, fun h0 => ?_⟩
  · by_cases hk : jump p (top G) = 0
    · rw [if_pos hk]
      rw [hk, zero_mul, add_zero] at h0 ⊢
      exact hc.1 h0
    · rw [if_neg hk, e _ (by omega) h7]
  · by_cases hk : jump p (top G) = 7
    · rw [if_pos hk]
      rw [hk, show 7 + 1 = 8 from rfl, ← upper_eq hp] at h0 ⊢
      exact hc.2 h0
    · rw [if_neg hk, e _ (by omega) (by omega)]

/-- The upper threshold's interpolation on real counts. -/
theorem blend (x c : ℝ) {L H : ℕ} (hL : 128 ≤ L) (hH : H < 128) :
    (x : EReal) + (c : EReal) * max (1 - Ideal.div (max (((128 : ℝ) : EReal) - ((H : ℝ) : EReal)) 0) (max (((L : ℝ) : EReal) - ((H : ℝ) : EReal)) 1)) 0
      = ((x + c * (((L : ℝ) - 128) / ((L : ℝ) - (H : ℝ))) : ℝ) : EReal) := by
  have hL' : (128 : ℝ) ≤ L := by exact_mod_cast hL
  have hH' : (H : ℝ) ≤ 127 := by exact_mod_cast (by omega : H ≤ 127)
  have hd : (0 : ℝ) < (L : ℝ) - H := by linarith
  rw [← EReal.coe_sub, ← EReal.coe_sub, ← EReal.coe_zero, ← EReal.coe_one, ← EReal.coe_strictMono.monotone.map_max,
    ← EReal.coe_strictMono.monotone.map_max, max_eq_left (by linarith : (0 : ℝ) ≤ 128 - H), max_eq_left (by linarith : (1 : ℝ) ≤ L - H),
    Ideal.div_coe hd.ne', ← EReal.coe_mul, ← EReal.coe_sub, ← EReal.coe_strictMono.monotone.map_max]
  have e : (1 : ℝ) - (128 - H) * (1 / ((L : ℝ) - H)) = ((L : ℝ) - 128) / ((L : ℝ) - (H : ℝ)) := by
    field_simp; ring
  rw [e, max_eq_left (div_nonneg (by linarith) hd.le), ← EReal.coe_mul, ← EReal.coe_add]

theorem ta_val (hsep : 128 ≤ reach G (top G)) (hlo : (s.lo (ix2 r 0) : EReal) = lower G 3) (h : Packed G r 3 49 s) (hc : Counts G r 3 s)
    (h0 : top G ≠ 0) (h1 : top G ≠ 4095) : ((finish 3 s).ta (ix2 r 0) : EReal) = inner G := by
  have hn := counts_succ hsep (by decide) h hc
  have hL := lower_succ hsep (by decide) hlo h
  unfold Counts at hn
  rw [finish_lw _ _ (by decide), finish_hi _ _ (by decide)] at hn
  simp only [show 3 + 1 = 4 from rfl, base_four, show 8 ^ (4 - 4) = 1 from rfl] at hn
  rw [finish_ta_read, hL, hn.1 h0, hn.2 (by omega)]
  refine Eq.trans ?_ (blend _ _ hsep (count_next (reach_anti G) hsep h1))
  unfold lower
  rw [show 3 + 1 = 4 from rfl, base_four]

theorem close_mid (hn : n ≠ 48) : close p n s = s := if_neg hn
theorem close_end : close p 48 s = finish p s := if_pos rfl

/-- How far the upper threshold moves is at most one cell. -/
theorem share_le (a b : EReal) : max (1 - Ideal.div (max a 0) (max b 1)) 0 ≤ 1 := by
  have h1 : (0 : EReal) < max b 1 := lt_max_of_lt_right one_pos
  have h2 : 0 ≤ Ideal.div (max a 0) (max b 1) := by
    unfold Ideal.div
    rw [if_neg h1.ne']
    exact mul_nonneg (le_max_right _ _) (EReal.inv_nonneg_of_nonneg h1.le)
  refine max_le ((EReal.sub_le_sub le_rfl h2).trans (by simp)) zero_le_one

theorem ta_le (hsep : 128 ≤ reach G (top G)) (hlo : (s.lo (ix2 r 0) : EReal) = lower G 3) (h : Packed G r 3 49 s) :
    ((finish 3 s).ta (ix2 r 0) : EReal) ≤ 0 := by
  have hL := lower_succ hsep (by decide) hlo h
  rw [finish_ta_read, hL]
  have hc : (0 : EReal) ≤ (cell : EReal) := EReal.coe_nonneg.2 cell_pos.le
  have h1 := mul_le_mul_of_nonneg_left (share_le (((128 : ℝ) : EReal) - newHi0 s.hi s.acc0 s.acc1 (ix2 r 0))
    (newLw0 s.lw s.acc0 s.acc1 (ix2 r 0) - newHi0 s.hi s.acc0 s.acc1 (ix2 r 0))) hc
  refine (add_le_add_right h1 _).trans ?_
  rw [mul_one, ← EReal.coe_add]
  have h2 : lower G 4 ≤ -10 := lower_le 4
  have h3 : cell ≤ 1 := by unfold cell; norm_num
  exact EReal.coe_nonpos.2 (by linarith)

/-- The last phase's tally. -/
theorem tally_summed (hx : ∀ l, (g (ix2 r l) : EReal) = X n l) (hw : ∀ l, (rr (ix2 0 l) : EReal) = W n l) (hy : ∀ l, (v (ix2 0 l) : EReal) = Y n l)
    (hg : ∀ l, Reads (X n l) (G n l)) (he : Ends G r s) (h : Summed G X W Y r n s) : Summed G X W Y r (n + 1) (tally 4 g rr v s) := by
  have hand (x : EReal) (y : EReal) : (if (s.ta (ix2 r 0) : EReal) ≤ x then if (s.tb (ix2 r 0) : EReal) ≤ x then y else 0 else 0)
      = if (s.ta (ix2 r 0) : EReal) ≤ x then y else 0 := by
    by_cases h1 : (s.ta (ix2 r 0) : EReal) ≤ x
    · rw [if_pos h1, if_pos h1, if_pos (he.2.1.trans h1)]
    · rw [if_neg h1, if_neg h1]
  have hb : ((low : ℝ) : EReal) ≤ s.tb (ix2 r 0) := (EReal.coe_le_coe_iff.2 (low_le_thr (top G))).trans he.1.ge
  have ha := hb.trans he.2.1
  have ha0 : (s.ta (ix2 r 0) : EReal) ≤ 0 := he.2.2.1
  have hb0 := he.2.1.trans ha0
  constructor
  · refine (pay155_read g rr v s.ta s.tb s.numa r).trans ?_
    simp only [hand, hx, hw, hy]
    refine Eq.trans ?_ (numE_succ _ X W Y n)
    exact congrArg (· + _) h.numa
  · refine (pay156_read g rr s.ta s.tb s.dena r).trans ?_
    simp only [hand, hx, hw]
    refine Eq.trans ?_ (denE_succ _ X W n)
    exact congrArg (· + _) h.dena
  · refine (pay157_read g rr v s.tb s.numl r).trans ?_
    simp only [hx, hw, hy]
    refine Eq.trans ?_ (numE_succ _ X W Y n)
    exact congrArg (· + _) h.numl
  · refine (pay158_read g rr s.tb s.denl r).trans ?_
    simp only [hx, hw]
    refine Eq.trans ?_ (denE_succ _ X W n)
    exact congrArg (· + _) h.denl
  · refine (pay159_read g s.ta s.cnta r).trans ?_
    simp only [hx, fun l => (hg l).le_iff ha ha0]
    refine Eq.trans ?_ (cntN_succ G _ n)
    exact congrArg (· + _) h.cnta
  · refine (pay13_read g s.tb s.cntl r).trans ?_
    simp only [hx, fun l => (hg l).le_iff hb hb0]
    refine Eq.trans ?_ (cntN_succ G _ n)
    exact congrArg (· + _) h.cntl

theorem seed_ends (h : Inv G X W Y r 4 n s) : Ends G r (seed 4 n s) := by
  unfold seed
  split
  · exact (h.2 rfl).1
  · exact (h.2 rfl).1

theorem seed_summed (h : Inv G X W Y r 4 n s) : Summed G X W Y r n (seed 4 n s) := by
  unfold seed
  split
  · rename_i hn
    subst hn
    have hz := zeros_read r
    have e1 (T : EReal) : numE T X W Y 0 = 0 := by simp [numE]
    have e2 (T : EReal) : denE T X W 0 = 0 := by simp [denE]
    have e3 (T : EReal) : (((cntN G T 0 : ℕ) : ℝ) : EReal) = 0 := by simp [cntN]
    exact ⟨hz.1.trans (e1 _).symm, hz.2.1.trans (e2 _).symm, hz.2.2.1.trans (e1 _).symm, hz.2.2.2.1.trans (e2 _).symm,
      hz.2.2.2.2.1.trans (e3 _).symm, hz.2.2.2.2.2.trans (e3 _).symm⟩
  · rename_i hn
    exact (h.2 rfl).2 hn

/-- One grid point keeps the row's invariant. -/
theorem step_inv (hsep : 128 ≤ reach G (top G)) (hp : p < 5) (hx : ∀ l, (g (ix2 r l) : EReal) = X n l)
    (hw : ∀ l, (rr (ix2 0 l) : EReal) = W n l) (hy : ∀ l, (v (ix2 0 l) : EReal) = Y n l) (hg : ∀ l, Reads (X n l) (G n l)) (h : Inv G X W Y r p n s) :
    (n ≠ 48 → Inv G X W Y r p (n + 1) (step p n g rr v s)) ∧ (n = 48 → p < 4 → Inv G X W Y r (p + 1) 0 (step p n g rr v s)) := by
  have hg' : ∀ l, Reads (g (ix2 r l)) (G n l) := fun l => by rw [hx]; exact hg l
  constructor
  · intro hn
    unfold step
    rw [close_mid hn]
    refine ⟨fun hp' => ?_, fun hp' => ?_⟩
    · refine ⟨fun _ => ?_, fun _ => tally_packed hp' hg' (seed_lo hp' h) (seed_packed hp' h), tally_counts hp' (seed_counts hp' h)⟩
      rw [tally_lo g rr v _ hp']
      exact seed_lo hp' h
    · subst hp'
      refine ⟨seed_ends h, fun _ => ?_⟩
      exact tally_summed hx hw hy hg (seed_ends h) (seed_summed h)
  · intro hn hp'
    subst hn
    unfold step
    rw [close_end]
    have hP := tally_packed (rr := rr) (v := v) hp' hg' (seed_lo hp' h) (seed_packed hp' h)
    have hl : ((tally p g rr v (seed p 48 s)).lo (ix2 r 0) : EReal) = lower G p := by
      rw [tally_lo g rr v _ hp']; exact seed_lo hp' h
    have hL := lower_succ hsep hp' hl hP
    have hC := tally_counts (g := g) (rr := rr) (v := v) hp' (seed_counts hp' h)
    refine ⟨fun _ => ⟨fun _ => ?_, fun h0 => absurd rfl h0, counts_succ hsep hp' hP hC⟩, fun h4 => ⟨?_, fun h0 => absurd rfl h0⟩⟩
    · rw [finish_lo _ _ hp', hL]
    · obtain rfl : p = 3 := by omega
      refine ⟨?_, finish_ta _ _, ta_le hsep hl hP, ta_val hsep hl hP hC⟩
      rw [finish_tb, hL]
      unfold lower
      rw [base_four]

theorem weight_one {a : ℝ} (ha : a ≤ 127) {b : ℝ} (hb : b = 128) :
    min (1 : EReal) (max 0 (Ideal.div (((128 : ℝ) : EReal) - (a : EReal)) (max ((b : EReal) - (a : EReal)) 1))) = 1 := by
  subst hb
  rw [← EReal.coe_sub, ← EReal.coe_one, ← EReal.coe_strictMono.monotone.map_max, max_eq_left (by linarith : (1 : ℝ) ≤ 128 - a),
    Ideal.div_coe (by linarith), ← EReal.coe_mul, mul_one_div, div_self (by linarith : (128 : ℝ) - a ≠ 0)]
  simp

theorem weight_zero (b : ℝ) :
    min (1 : EReal) (max 0 (Ideal.div (((128 : ℝ) : EReal) - ((128 : ℝ) : EReal)) (max ((b : EReal) - ((128 : ℝ) : EReal)) 1))) = 0 := by
  have hb : (0 : ℝ) < max (b - 128) 1 := lt_max_of_lt_right one_pos
  rw [← EReal.coe_sub, ← EReal.coe_sub, ← EReal.coe_one, ← EReal.coe_strictMono.monotone.map_max, Ideal.div_coe hb.ne', sub_self, EReal.coe_zero, zero_mul, max_self]
  exact min_eq_right (EReal.coe_nonneg.2 zero_le_one)

theorem add_sub_coe (x y : ℝ) : (x : EReal) + ((y : EReal) - (x : EReal)) = y := by
  rw [← EReal.coe_sub, ← EReal.coe_add, add_sub_cancel]

theorem sub_coe (x : ℝ) : (x : EReal) - (x : EReal) = 0 := by rw [← EReal.coe_sub, sub_self, EReal.coe_zero]

theorem inner_low (hsep : 128 ≤ reach G (top G)) : low ≤ inner G := by
  have h1 := low_le_thr (top G)
  have h2 : (reach G (top G + 1) : ℝ) ≤ reach G (top G) := by exact_mod_cast reach_anti G (Nat.le_succ (top G))
  have h3 : (128 : ℝ) ≤ reach G (top G) := by exact_mod_cast hsep
  have h4 := mul_nonneg cell_pos.le (div_nonneg (sub_nonneg.2 h3) (sub_nonneg.2 h2))
  unfold inner
  linarith

theorem inner_of_top (h : reach G (top G) = 128) : inner G = thr (top G) := by
  unfold inner
  rw [h, Nat.cast_ofNat, sub_self, zero_div, mul_zero, add_zero]

/-- The thresholds lie above the smallest one. -/
theorem ends_low (he : Ends G r s) : (low : EReal) ≤ s.tb (ix2 r 0) ∧ (low : EReal) ≤ s.ta (ix2 r 0) := by
  have hb : ((low : ℝ) : EReal) ≤ s.tb (ix2 r 0) := (EReal.coe_le_coe_iff.2 (low_le_thr (top G))).trans he.1.ge
  exact ⟨hb, hb.trans he.2.1⟩

/-- The result of a row whose top 128 scores its upper threshold separates, where no score is infinite upwards. -/
theorem out_val {R V : Row} (hs : Settled G) (hL : ∀ c l, Lane (X c l) (W c l) (G c l) (R c l)) (hV : ∀ c l, Y c l = (V c l : ℝ))
    (he : Ends G r s) (h : Summed G X W Y r 49 s) :
    (outCol s (ix2 r 0) : EReal) = Ideal.div (numS G R V (inner G) 49) (denS G R (inner G) 49) := by
  refine (pay14_read r s.cnta s.cntl s.numl s.numa s.denl s.dena).trans ?_
  obtain ⟨hb, ha⟩ := ends_low he
  have e1 := h.numa.trans (numE_eq hL ha hV 49); have e2 := h.dena.trans (denE_eq hL ha 49)
  have e3 := h.numl.trans (numE_eq hL hb hV 49); have e4 := h.denl.trans (denE_eq hL hb 49)
  have e5 := h.cnta; have e6 := h.cntl
  by_cases ht : reach G (top G) = 128
  · rw [inner_of_top ht]
    have hc : cntN G (s.tb (ix2 r 0)) 49 = 128 := by rw [he.1, cntN_thr]; exact ht
    have hle := cntN_le G he.2.1
    rw [hc] at hle
    rw [hc] at e6
    rw [e5, e6, word_128]
    by_cases ha : cntN G (s.ta (ix2 r 0)) 49 = 128
    · have hs := sums_of_cntN G R V he.2.1 (ha.trans hc.symm)
      rw [e1, e2, e3, e4, hs.1, hs.2, he.1]
      rw [sub_coe, sub_coe, mul_zero, add_zero, add_zero]
    · have ha' : (cntN G (s.ta (ix2 r 0)) 49 : ℝ) ≤ 127 := by exact_mod_cast (by omega : cntN G (s.ta (ix2 r 0)) 49 ≤ 127)
      rw [weight_one ha' (Nat.cast_ofNat), one_mul, one_mul, e1, e2, e3, e4, add_sub_coe, add_sub_coe, he.1]
  · obtain ⟨h0, h1⟩ := hs.2.2.resolve_left ht
    have ha := he.2.2.2 h0 h1
    have hle := cntN_le G he.2.1
    rw [e5, e6, e1, e2, word_128]
    rw [ha] at hle ⊢
    rw [hs.2.1, Nat.cast_ofNat, weight_zero, zero_mul, zero_mul, add_zero, add_zero]

/-- A quotient by a sum with an infinite part is zero. -/
theorem div_top (x y f : EReal) (h0 : 0 ≤ f) : Ideal.div x (⊤ + f * (y - ⊤)) = 0 := by
  have e : (⊤ : EReal) + f * (y - ⊤) = ⊤ ∨ (⊤ : EReal) + f * (y - ⊤) = ⊥ := by
    rw [EReal.sub_top]
    rcases h0.eq_or_lt with rfl | h0
    · left; rw [zero_mul, add_zero]
    · right; rw [EReal.mul_bot_of_pos h0, EReal.add_bot]
  rcases e with e | e
  · rw [e, Ideal.div, if_neg EReal.top_ne_zero, EReal.inv_top, mul_zero]
  · rw [e, Ideal.div, if_neg EReal.bot_ne_zero, EReal.inv_bot, mul_zero]

/-- The result of a row with a score that is infinite upwards. -/
theorem out_top (hW : ∀ c l, (low : EReal) ≤ X c l → 0 < W c l) {c : ℕ} (hc : c < 49) {l : Fin 2048} (hX : X c l = ⊤)
    (he : Ends G r s) (h : Summed G X W Y r 49 s) : (outCol s (ix2 r 0) : EReal) = 0 := by
  refine (pay14_read r s.cnta s.cntl s.numl s.numa s.denl s.dena).trans ?_
  rw [h.dena.trans (denE_top (ends_low he).2 hW hc hX)]
  exact div_top _ _ _ (le_min zero_le_one (le_max_left _ _))

end Cert.KernelIdeal.Hand

end
-- ==== Proof.KernelIdeal.Value.lean ====
module

public import proofs.«01_k».proof.Proof.KernelIdeal.Result
public import proofs.«01_k».proof.Proof.KernelIdeal.Rows

@[expose] public section

/-! # The kernel's result on proper arguments: the mean over the top scores, where a threshold separates them -/

set_option maxRecDepth 16384

noncomputable section

namespace Cert.KernelIdeal.Hand

open Cert.KernelIdeal Cert.KernelIdeal.Gen
open Idealize.ShloMosaic Idealize.ShloMosaic.TcCoe
open Idealize.ShloMosaic.Pipeline (RDat)
open Cert.Consts Cert.Posterior Cert.Table Cert.Scores Cert.Search Cert.RowSums

section
variable (m : (ℓ : Loc nD τ sig) → Buf (Elt Ideal) ℓ) (c : Dev nD)
/-- The queries. -/
abbrev queries : FVec Ideal S1024x64 .f32 := m ((c.tc : Thread nD τ).loc main_arg0)
/-- The keys. -/
abbrev memKeys : FVec Ideal S100000x64 .f32 := m ((c.tc : Thread nD τ).loc main_arg1)
/-- The values. -/
abbrev memValues : FVec Ideal S100000 .f32 := m ((c.tc : Thread nD τ).loc main_arg2)
/-- The histogram. -/
abbrev memHist : FVec Ideal S100000 .f32 := m ((c.tc : Thread nD τ).loc main_arg3)
end

/-- Proper arguments of one device: real values, and a histogram that is nowhere infinite upwards. -/
structure Proper (m : (ℓ : Loc nD τ sig) → Buf (Elt Ideal) ℓ) (c : Dev nD) where
  W : Fin 100000 → ℝ
  hv : ∀ j, memValues m c (ix1 j) = ((W j : ℝ) : EReal)
  hh : ∀ j, (memHist m c (ix1 j) : EReal) < ⊤

variable {m : (ℓ : Loc nD τ sig) → Buf (Elt Ideal) ℓ}

/-- The similarity of a query and a key. -/
def sim (m : (ℓ : Loc nD τ sig) → Buf (Elt Ideal) ℓ) (c : Dev nD) (i : Fin 1024) (j : Fin 100000) : EReal :=
  ∑ x, (queries m c (ix2 i x) : EReal) * (memKeys m c (ix2 j x) : EReal)

/-- The histogram. -/
def hist (m : (ℓ : Loc nD τ sig) → Buf (Elt Ideal) ℓ) (c : Dev nD) (j : Fin 100000) : EReal :=
  memHist m c (ix1 j)

/-- A row's log scores. -/
def entry (m : (ℓ : Loc nD τ sig) → Buf (Elt Ideal) ℓ) (c : Dev nD) (i : Fin 1024) (j : Fin 100000) : EReal :=
  entryOf (sim m c i j) (hist m c j)

namespace Proper
variable {c : Dev nD} (A : Proper m c)
include A

/-- Real numbers that stand for a row's log scores. -/
def scores (_ : Proper m c) (i : Fin 1024) (j : Fin 100000) : ℝ := rep (entry m c i j)
/-- The same in chunks, the padding far below. -/
def G (i : Fin 1024) : Row := spread (A.scores i) (-100000)
/-- The ratios in chunks. -/
def R (_ : Proper m c) : Row := spread (fun j => ratio (hist m c j).toReal) 0
/-- The values in chunks. -/
def V : Row := spread A.W 0

/-- A row's log scores in chunks. -/
def X (_ : Proper m c) (i : Fin 1024) (n : ℕ) (l : Fin 2048) : EReal :=
  if hj : 2048 * n + l.val < 100000 then entry m c i ⟨_, hj⟩ else ((-100000 : ℝ) : EReal)
/-- The kernel's ratios in chunks. -/
def Z (_ : Proper m c) (n : ℕ) (l : Fin 2048) : EReal :=
  if hj : 2048 * n + l.val < 100000 then Host.ratios (F := Ideal) (memHist m c) (ix1 ⟨_, hj⟩) else ((0 : ℝ) : EReal)

theorem chunk_scores (t : Fin cfg0.N) (r : Fin 512) (l : Fin 2048) :
    (k0_pay1 (blk0 m c t) (blk1 m c t) (blk2 m c t) (ix2 r l) : EReal) = A.X (rowOf t r) (t.val % 49) l := by
  rw [scores_read, blk2_read, Host.V_priors, Host.priors_read]
  have e (x : Fin 64) : blk0 m c t (ix2 r x) * blk1 m c t (ix2 l x)
      = (queries m c (ix2 (rowOf t r) x) : EReal)
        * (if hj : (laneOf t l).val < 100000 then (memKeys m c (ix2 ⟨_, hj⟩ x) : EReal) else ((0 : ℝ) : EReal)) := by
    rw [blk0_read, blk1_read, V_main_arg0, Host.V_keys, Host.keys_read]
  simp only [e]
  unfold X
  by_cases hj : 2048 * (t.val % 49) + l.val < 100000
  · have hj' : (laneOf t l).val < 100000 := hj
    simp only [dif_pos hj, dif_pos hj']
    rfl
  · have hj' : ¬(laneOf t l).val < 100000 := hj
    simp only [dif_neg hj, dif_neg hj', EReal.coe_zero, mul_zero, Finset.sum_const_zero, zero_add]

theorem chunk_ratios (t : Fin cfg0.N) (l : Fin 2048) : (blk3 m c t (ix2 0 l) : EReal) = A.Z (t.val % 49) l := by
  rw [blk3_read, Host.V_ratios, Host.zeros_at]
  rfl

theorem chunk_values (t : Fin cfg0.N) (l : Fin 2048) : (blk4 m c t (ix2 0 l) : EReal) = ((A.V (t.val % 49) l : ℝ) : EReal) := by
  rw [blk4_read, Host.V_values, Host.zeros_read _ A.hv]
  rfl

theorem chunk_reads (i : Fin 1024) (n : ℕ) (l : Fin 2048) : Reads (A.X i n l) (A.G i n l) := by
  unfold X G spread
  split
  · exact rep_reads _
  · exact .inl rfl

/-- An entry's ratio, if its log score is not minus infinity. -/
theorem ratio_val {i : Fin 1024} {j : Fin 100000} (he : entry m c i j ≠ ⊥) :
    (Host.ratios (F := Ideal) (memHist m c) (ix1 j) : EReal) = (ratio (hist m c j).toReal : ℝ)
      ∧ 0 < (hist m c j).toReal + beta := by
  obtain ⟨H, hH, hp⟩ := entry_prior (A.hh j) he
  have e : (hist m c j).toReal = H := (congrArg EReal.toReal hH).trans (EReal.toReal_coe H)
  rw [e]
  exact ⟨Host.ratios_read hH hp, hp⟩

theorem chunk_lanes {i : Fin 1024} (ht : ¬∃ j, entry m c i j = ⊤) (n : ℕ) (l : Fin 2048) : Lane (A.X i n l) (A.Z n l) (A.G i n l) (A.R n l) := by
  have hr := A.chunk_reads i n l
  unfold X Z G R spread at *
  split
  · rename_i hj
    simp only [dif_pos hj] at hr
    by_cases hb : entry m c i ⟨_, hj⟩ = ⊥
    · right
      rcases hr with h | h | h
      · exact absurd (hb.symm.trans h).symm (EReal.coe_ne_bot _)
      · exact h
      · exact absurd ⟨_, h.1⟩ ht
    · left
      rcases hr with h | h | h
      · exact ⟨h, (A.ratio_val hb).1⟩
      · exact absurd h.1 hb
      · exact absurd ⟨_, h.1⟩ ht
  · exact .inl ⟨rfl, rfl⟩

theorem chunk_pos (i : Fin 1024) (n : ℕ) (l : Fin 2048) (h : (low : EReal) ≤ A.X i n l) : 0 < A.Z n l := by
  unfold X at h
  unfold Z
  split
  · rename_i hj
    rw [dif_pos hj] at h
    obtain ⟨h1, h2⟩ := A.ratio_val (i := i) (j := ⟨_, hj⟩) ((EReal.bot_lt_coe low).trans_le h).ne'
    rw [h1]
    exact EReal.coe_pos.2 (ratio_pos h2)
  · rename_i hj
    rw [dif_neg hj] at h
    exact absurd (EReal.coe_le_coe_iff.1 h) (by unfold low; norm_num)

theorem chunk_top {i : Fin 1024} {j : Fin 100000} (h : entry m c i j = ⊤) :
    A.X i (j.val / 2048) ⟨j.val % 2048, Nat.mod_lt _ (by decide)⟩ = ⊤ := by
  have e : 2048 * (j.val / 2048) + j.val % 2048 = j.val := Nat.div_add_mod _ _
  unfold X
  rw [dif_pos (by show 2048 * (j.val / 2048) + j.val % 2048 < 100000; rw [e]; exact j.isLt)]
  exact (congrArg (entry m c i) (Fin.ext e)).trans h

/-- The row's upper threshold separates its top 128 scores from the others. -/
def Separated (i : Fin 1024) : Prop := Settled (A.G i)

open scoped Classical in
/-- The kernel's result for a row: zero if a score is infinite upwards, else a quotient. -/
def quot (i : Fin 1024) : EReal :=
  if ∃ j, entry m c i j = ⊤ then 0 else Ideal.div (numS (A.G i) A.R A.V (inner (A.G i)) 49) (denS (A.G i) A.R (inner (A.G i)) 49)

theorem quot_val {i : Fin 1024} {r : Fin 512} {s : St Ideal} (hs : A.Separated i) (he : Ends (A.G i) r s)
    (h : Summed (A.G i) (A.X i) A.Z (fun n l => ((A.V n l : ℝ) : EReal)) r 49 s) : (outCol s (ix2 r 0) : EReal) = A.quot i := by
  unfold quot
  by_cases ht : ∃ j, entry m c i j = ⊤
  · rw [if_pos ht]
    obtain ⟨j, hj⟩ := ht
    have := j.isLt
    exact out_top (A.chunk_pos i) (by omega) (A.chunk_top hj) he h
  · rw [if_neg ht]
    exact out_val hs (A.chunk_lanes ht) (fun _ _ => rfl) he h

end Proper

/-- Row `r` of the block that grid point `t` works on. -/
def rowAt (t : ℕ) (r : Fin 512) : Fin 1024 := ⟨(512 * (t / 245) + r.val) % 1024, Nat.mod_lt _ (by decide)⟩

theorem rowAt_eq (t : Fin cfg0.N) (r : Fin 512) : rowAt t.val r = rowOf t r :=
  Fin.ext (Nat.mod_eq_of_lt (rowOf t r).isLt)

variable (B : ∀ c : Dev nD, Proper m c)

/-- Every separated row is on its way to its quotient. -/
def Going (c : Dev nD) (t : ℕ) (s : St Ideal) : Prop :=
  ∀ r : Fin 512, (B c).Separated (rowAt t r) → Inv ((B c).G (rowAt t r)) ((B c).X (rowAt t r)) (B c).Z (fun n l => (((B c).V n l : ℝ) : EReal)) r (t / 49 % 5) (t % 49) s

theorem inv_first (G : Row) (X W Y : ℕ → Fin 2048 → EReal) (r : Fin 512) (s : St Ideal) : Inv G X W Y r 0 0 s :=
  ⟨fun _ => ⟨fun h => by simp at h, fun h => absurd rfl h, counts_zero _⟩, fun h => by simp at h⟩

theorem going_next (c : Dev nD) (t : Fin cfg0.N) (s : St Ideal) (h : Going B c t.val s) : Going B c (t.val + 1) (stepAt m c t s) := by
  intro r hs
  by_cases h0 : (t.val + 1) % 245 = 0
  · rw [show (t.val + 1) / 49 % 5 = 0 by omega, show (t.val + 1) % 49 = 0 by omega]
    exact inv_first _ _ _ _ _ _
  · have er : rowAt (t.val + 1) r = rowAt t.val r := by
      unfold rowAt
      simp only [show (t.val + 1) / 245 = t.val / 245 by omega]
    rw [er] at hs ⊢
    have st := step_inv hs.1 (show t.val / 49 % 5 < 5 by omega) (fun l => by rw [rowAt_eq]; exact (B c).chunk_scores t r l)
      (fun l => (B c).chunk_ratios t l) (fun l => (B c).chunk_values t l) (fun l => (B c).chunk_reads _ _ l) (h r hs)
    by_cases hn : t.val % 49 = 48
    · rw [show (t.val + 1) / 49 % 5 = t.val / 49 % 5 + 1 by omega, show (t.val + 1) % 49 = 0 by omega]
      exact st.2 hn (by omega)
    · rw [show (t.val + 1) / 49 % 5 = t.val / 49 % 5 by omega, show (t.val + 1) % 49 = t.val % 49 + 1 by omega]
      exact st.1 hn

theorem going_out (c : Dev nD) (t : Fin cfg0.N) (s : St Ideal) (h : Going B c t.val s) (ht : t.val % 245 = 244) (r : Fin 512)
    (hs : (B c).Separated (rowOf t r)) : (outCol (stepAt m c t s) (ix2 r 0) : EReal) = (B c).quot (rowOf t r) := by
  have hi := h r (by rw [rowAt_eq]; exact hs)
  rw [rowAt_eq, show t.val / 49 % 5 = 4 by omega, show t.val % 49 = 48 by omega] at hi
  unfold stepAt step
  rw [show t.val / 49 % 5 = 4 by omega, show t.val % 49 = 48 by omega, close_end]
  have h48 : t.val % 49 = 48 := by omega
  have hx (l : Fin 2048) := (B c).chunk_scores t r l
  have hw (l : Fin 2048) := (B c).chunk_ratios t l
  have hv (l : Fin 2048) := (B c).chunk_values t l
  simp only [h48] at hx hw hv
  have he := seed_ends hi
  exact (B c).quot_val hs he (tally_summed hx hw hv (fun l => (B c).chunk_reads _ _ l) he (seed_summed hi))

/-- The plan that carries every separated row to its quotient. -/
def thePlan : Plan m where
  P := Going B
  O c t X := ∀ r : Fin 512, (B c).Separated (rowOf t r) → (X (ix2 r 0) : EReal) = (B c).quot (rowOf t r)
  start c s r _ := inv_first _ _ _ _ _ _
  next := going_next B
  out := going_out B

/-- At the end every separated row holds its quotient. -/
theorem final_quot {r : PUnit × MemSt nD τ sig (Elt Ideal)} (c : Dev nD) (h : RDat.FramePost (cfgs 0) (rdats (thePlan B)) (Gen.V m) r)
    (i : Fin 1024) (hs : (B c).Separated i) :
    (r.2.mem ((c.tc : Thread nD τ).loc main_v17) : Out Ideal) (ix2 i 0) = (B c).quot i := by
  have hu : 245 * (i.val / 512) + 244 < 490 := by omega
  obtain ⟨X, hX, hr⟩ := final_out (thePlan B) c h (⟨245 * (i.val / 512) + 244, hu⟩ : Fin cfg0.N) (by show (245 * (i.val / 512) + 244) % 245 = 244; omega)
  have e : rowOf (⟨245 * (i.val / 512) + 244, hu⟩ : Fin cfg0.N) ⟨i.val % 512, Nat.mod_lt _ (by decide)⟩ = i :=
    Fin.ext (by show 512 * ((245 * (i.val / 512) + 244) / 245) + i.val % 512 = i.val; omega)
  have h1 := hr ⟨i.val % 512, Nat.mod_lt _ (by decide)⟩
  have h2 := hX ⟨i.val % 512, Nat.mod_lt _ (by decide)⟩
  rw [e] at h1 h2
  exact h1.trans (h2 hs)

end Cert.KernelIdeal.Hand

end
-- ==== Proof.Math.TopK.lean ====
module

public import proofs.«01_k».proof.Proof.Math.Consts
public import Idealize.ShloMosaic.Lib.Pointwise
public import Idealize.ShloMosaic.Lib.SortFacts

@[expose] public section

/-! # The largest entries of each row, read at an index -/

noncomputable section

namespace Cert.TopK

open Idealize.ShloMosaic

variable {α : Type} {b n k : ℕ} (gt : α → α → BitVec 1) (x : (⟨2, ![b, n]⟩ : Shape).Idx → α)

theorem along_row (i : Fin b) (j : (⟨2, ![b, n]⟩ : Shape).Idx) (hj : j 0 = i) (a : Fin n) : j.along 1 a = ix2 i a := by
  funext c
  match c with
  | ⟨0, _⟩ => exact hj
  | ⟨1, _⟩ => rfl

/-- The columns of row `i`, in sorted order. -/
def order (i : Fin b) : Fin n → Fin n := sortedFrom fun a c => gt (x (ix2 i a)) (x (ix2 i c)) == 1#1

theorem before_eq (i : Fin b) (j : (⟨2, ![b, n]⟩ : Shape).Idx) (hj : j 0 = i) :
    (fun a c : Fin n => gt (x (j.along 1 a)) (x (j.along 1 c)) == 1#1) = fun a c => gt (x (ix2 i a)) (x (ix2 i c)) == 1#1 := by
  funext a c; rw [along_row i j hj, along_row i j hj]

variable (hk : k ≤ n) (h : (⟨2, ![b, n]⟩ : Shape).Slices (fun _ => 0) ⟨2, ![b, k]⟩) (i : Fin b) (p : Fin k)

/-- The slice's index in the whole row. -/
theorem widen (i : Fin b) (p : Fin k) : (fun a => ⟨0 + ((ix2 i p : (⟨2, ![b, k]⟩ : Shape).Idx) (Fin.cast h.1 a)).val, by
    have := h.2 a; exact lt_of_lt_of_le (Nat.add_lt_add_left (Fin.isLt _) _) this⟩ : (⟨2, ![b, n]⟩ : Shape).Idx) = ix2 i (Fin.castLE hk p) := by
  funext c
  match c with
  | ⟨0, _⟩ => exact Fin.ext (Nat.zero_add _)
  | ⟨1, _⟩ => exact Fin.ext (Nat.zero_add _)

theorem places_read : (Host.topK ⟨2, ![b, k]⟩ 1 gt x h).2 (ix2 i p) = BitVec.ofNat 32 (order gt x i (Fin.castLE hk p)).val := by
  show (fun j : (⟨2, ![b, n]⟩ : Shape).Idx => BitVec.ofNat 32
    (sortedFrom (fun a c : Fin n => gt (x (j.along 1 a)) (x (j.along 1 c)) == 1#1) (j 1)).val) _ = _
  rw [widen hk h i p]
  show BitVec.ofNat 32 (sortedFrom _ _).val = _
  rw [before_eq gt x i _ rfl]
  rfl

theorem values_read : (Host.topK ⟨2, ![b, k]⟩ 1 gt x h).1 (ix2 i p) = x (ix2 i (order gt x i (Fin.castLE hk p))) := by
  show (fun j : (⟨2, ![b, n]⟩ : Shape).Idx => x (j.along 1
    (sortedFrom (fun a c : Fin n => gt (x (j.along 1 a)) (x (j.along 1 c)) == 1#1) (j 1)))) _ = _
  rw [widen hk h i p]
  show x (Shape.Idx.along _ _ (sortedFrom _ _)) = _
  rw [before_eq gt x i _ rfl]
  exact congrArg x (along_row i _ rfl _)

end Cert.TopK

end
-- ==== Proof.ReferenceIdeal.Read.lean ====
module

public import proofs.«01_k».proof.Proof.Gen.ReferenceIdeal.Run
public import proofs.«01_k».proof.Proof.Math.Consts
public import Idealize.ShloMosaic.Lib.Pointwise
public import proofs.«01_k».proof.Proof.Math.TopK
public import Idealize.ShloMosaic.Lib.Routing.OpsPair
public import Idealize.ShloMosaic.Lib.StableHlo.Predicate

@[expose] public section

/-! # The reference's operations read at an index -/

set_option maxRecDepth 16384

noncomputable section

namespace Cert.ReferenceIdeal.Hand

open Cert.ReferenceIdeal Cert.ReferenceIdeal.Gen
open Idealize.ShloMosaic Idealize.ShloMosaic.TcCoe
open Cert.Consts

variable (q : FVec Ideal S1024x64 .f32) (k : FVec Ideal S100000x64 .f32) (v h : FVec Ideal S100000 .f32)

/-- The likelihood times the prior. -/
def mass : FVec Ideal S1024x100000 .f32 :=
  mulf (Host.exp (subf (Host.dotGeneral dot_S1024x64_S64x100000_S1024x100000_1_0_0_1_n_n none q (transpose S64x100000 [1, 0] k transposes_S100000x64_S64x100000_1_0)) (broadcastInDim S1024x100000 ![] bcast_S_S1024x100000 (constant S_ .f32 0x3F800000#32)))) (broadcastInDim S1024x100000 ![0, 1] bcast_S1x100000_S1024x100000_0_1 (addf (broadcastInDim S1x100000 ![1] bcast_S100000_S1x100000_1 h) (broadcastInDim S1x100000 ![] bcast_S_S1x100000 (constant S_ .f32 0x322BCC77#32))))

/-- The positions of the 128 largest. -/
def places : IVec S1024x128 32 := (Host.topK S1024x128 1 (FloatOps.cmpfTotal .gt) (mass q k h) sliceFits_S1024x100000_S1024x128).2

/-- The positions as gather indices. -/
def starts (x : IVec S1024x128 32) : IVec S1024x128x1 32 :=
  broadcastInDim S1024x128x1 ![0, 1] bcast_S1024x128_S1024x128x1_0_1 (select (cmpi .slt x (broadcastInDim S1024x128 ![] bcast_S_S1024x128 (constantI S_ 32 0#32))) (addi x (broadcastInDim S1024x128 ![] bcast_S_S1024x128 (constantI S_ 32 100000#32))) x)

/-- The joint weight of the gathered entries. -/
def joint (ix : IVec S1024x128x1 32) : FVec Ideal S1024x128 .f32 :=
  mulf (Host.exp (subf (Host.dotGeneral dot_S1024x64_S1024x128x64_S1024x128_1_2_n_1_0_0 none q (Host.gather gather_S100000x64_S1024x128x1_S1024x128x64_2_0_n_n_0_2_164 k ix)) (broadcastInDim S1024x128 ![] bcast_S_S1024x128 (constant S_ .f32 0x3F800000#32)))) (addf (mulf (Host.gather gather_S100000_S1024x128x1_S1024x128_n_0_n_n_0_2_1 h ix) (broadcastInDim S1024x128 ![] bcast_S_S1024x128 (constant S_ .f32 0x3DCCCCCD#32))) (broadcastInDim S1024x128 ![] bcast_S_S1024x128 (constant S_ .f32 0x322BCC77#32)))

/-- The posterior mean of the gathered values. -/
def mean (w : FVec Ideal S1024x128 .f32) (x : FVec Ideal S1024x128 .f32) : FVec Ideal S1024x1 .f32 :=
  broadcastInDim S1024x1 ![0] bcast_S1024_S1024x1_0 (Host.reduceAdd (mulf (Host.divf w (broadcastInDim S1024x128 ![0, 1] bcast_S1024x1_S1024x128_0_1 (broadcastInDim S1024x1 ![0] bcast_S1024_S1024x1_0 (Host.reduceAdd w (constant S_ .f32 0x00000000#32) reducesTo_S1024x128_S1024_d1 h_S_)))) x) (constant S_ .f32 0x00000000#32) reducesTo_S1024x128_S1024_d1 h_S_)

theorem mass_read (i : Fin 1024) (j : Fin 100000) : mass q k h (ix2 i j)
    = Ideal.exp (∑ x, q (ix2 i x) * k (ix2 j x) - Ideal.ofBits .f32 0x3F800000#32) * (h (ix1 j) + Ideal.ofBits .f32 0x322BCC77#32) := by
  unfold mass; pointwise

/-- The positions sorted by mass, largest first. -/
abbrev order (i : Fin 1024) : Fin 100000 → Fin 100000 := TopK.order (FloatOps.cmpfTotal (F := Ideal) .gt) (mass q k h) i

theorem places_read (i : Fin 1024) (p : Fin 128) : places q k h (ix2 i p) = BitVec.ofNat 32 (order q k h i (Fin.castLE (by norm_num) p)).val :=
  TopK.places_read _ _ _ _ i p

theorem starts_read (x : IVec S1024x128 32) (i : Fin 1024) (p : Fin 128) (hx : (x (ix2 i p)).toNat < 2 ^ 31) :
    starts x (ix3 i p 0) = x (ix2 i p) := by
  unfold starts
  pointwise
  exact Routing.wrap_of_lt _ _ hx

theorem start_idx (i : Fin 1024) (p : Fin 128) : gather_S100000_S1024x128x1_S1024x128_n_0_n_n_0_2_1.siIdx (ix2 i p) ⟨0, by decide⟩ = ix3 i p 0 := by
  funext b
  match b with
  | ⟨0, _⟩ => rfl
  | ⟨1, _⟩ => rfl
  | ⟨2, _⟩ => rfl

theorem take_read (x : FVec Ideal S100000 .f32) (ix : IVec S1024x128x1 32) (i : Fin 1024) (p : Fin 128) (j : Fin 100000)
    (hj : ix (ix3 i p 0) = BitVec.ofNat 32 j.val) :
    Host.gather gather_S100000_S1024x128x1_S1024x128_n_0_n_n_0_2_1 x ix (ix2 i p) = x (ix1 j) := by
  unfold Host.gather
  refine congrArg x (funext fun a => Fin.ext ?_)
  match a with
  | ⟨0, _⟩ =>
    show min (ix (gather_S100000_S1024x128x1_S1024x128_n_0_n_n_0_2_1.siIdx (ix2 i p) ⟨0, by decide⟩)).toInt.toNat (100000 - 1) + 0 + 0 = j.val
    have := j.isLt
    rw [start_idx, hj, StableHlo.Predicate.toInt_ofNat_small _ (by omega)]
    omega

theorem row_idx (i : Fin 1024) (p : Fin 128) (y : Fin 64) :
    gather_S100000x64_S1024x128x1_S1024x128x64_2_0_n_n_0_2_164.siIdx (ix3 i p y) ⟨0, by decide⟩ = ix3 i p 0 := by
  funext b
  match b with
  | ⟨0, _⟩ => rfl
  | ⟨1, _⟩ => rfl
  | ⟨2, _⟩ => rfl

theorem row_read (x : FVec Ideal S100000x64 .f32) (ix : IVec S1024x128x1 32) (i : Fin 1024) (p : Fin 128) (y : Fin 64) (j : Fin 100000)
    (hj : ix (ix3 i p 0) = BitVec.ofNat 32 j.val) :
    Host.gather gather_S100000x64_S1024x128x1_S1024x128x64_2_0_n_n_0_2_164 x ix (ix3 i p y) = x (ix2 j y) := by
  unfold Host.gather
  refine congrArg x (funext fun a => Fin.ext ?_)
  match a with
  | ⟨0, _⟩ =>
    show min (ix (gather_S100000x64_S1024x128x1_S1024x128x64_2_0_n_n_0_2_164.siIdx (ix3 i p y) ⟨0, by decide⟩)).toInt.toNat (100000 - 1) + 0 + 0 = j.val
    have := j.isLt
    rw [row_idx, hj, StableHlo.Predicate.toInt_ofNat_small _ (by omega)]
    omega
  | ⟨1, _⟩ =>
    show 0 + 0 + y.val = y.val
    omega

theorem joint_read (ix : IVec S1024x128x1 32) (i : Fin 1024) (p : Fin 128) (j : Fin 100000) (hj : ix (ix3 i p 0) = BitVec.ofNat 32 j.val) :
    joint q k h ix (ix2 i p) = Ideal.exp (∑ x, q (ix2 i x) * k (ix2 j x) - Ideal.ofBits .f32 0x3F800000#32)
      * (h (ix1 j) * Ideal.ofBits .f32 0x3DCCCCCD#32 + Ideal.ofBits .f32 0x322BCC77#32) := by
  unfold joint
  pointwise
  rw [take_read h ix i p j hj]
  simp only [row_read k ix i p _ j hj]

theorem mean_read (w x : FVec Ideal S1024x128 .f32) (i : Fin 1024) : mean w x (ix2 i 0)
    = ∑ p, Ideal.div (w (ix2 i p)) (∑ p, w (ix2 i p)) * x (ix2 i p) := by
  unfold mean; pointwise

theorem res_eq (m : (ℓ : Loc nD τ sig) → Buf (Elt Ideal) ℓ) (c : Dev nD) : Value.res_main_v46 m c =
    (let q := m ((c.tc : Thread nD τ).loc main_arg0); let k := m ((c.tc : Thread nD τ).loc main_arg1)
     let v := m ((c.tc : Thread nD τ).loc main_arg2); let h := m ((c.tc : Thread nD τ).loc main_arg3)
     mean (joint q k h (starts (places q k h))) (Host.gather gather_S100000_S1024x128x1_S1024x128_n_0_n_n_0_2_1 v (starts (places q k h)))) := rfl

end Cert.ReferenceIdeal.Hand

end
-- ==== Proof.Math.Prefix.lean ====
module

public import proofs.«01_k».proof.Proof.Math.Consts

@[expose] public section

/-! # The first entries of a list sorted by score, when a threshold separates them -/

noncomputable section

namespace Cert.Prefix

open scoped Classical

variable {n k : ℕ} (σ : Fin n → Fin n) (hσ : Function.Injective σ) (p : Fin n → EReal) (hp : ∀ i j, i < j → ¬ p (σ i) < p (σ j))
  (S : Finset (Fin n)) (hS : S.card = k) (hsep : ∀ a ∈ S, ∀ b, b ∉ S → p b < p a)
include hσ hp hS hsep

/-- The first `k` of the sorted entries are those of `S`. -/
theorem mem_of_lt (i : Fin n) (hi : i.val < k) : σ i ∈ S := by
  by_contra hb
  have hsub : S ⊆ (Finset.univ.filter fun j : Fin n => j.val < i.val).image σ := fun a ha => by
    obtain ⟨j, rfl⟩ := (Finite.surjective_of_injective hσ) a
    refine Finset.mem_image_of_mem σ (Finset.mem_filter.2 ⟨Finset.mem_univ _, ?_⟩)
    by_contra hj
    have hne : i ≠ j := fun e => hb (e ▸ ha)
    exact hp i j (lt_of_le_of_ne (Fin.le_def.2 (not_lt.1 hj)) hne) (hsep _ ha _ hb)
  have h1 := (Finset.card_le_card hsub).trans Finset.card_image_le
  have h2 : (Finset.univ.filter fun j : Fin n => j.val < i.val).card ≤ i.val := by
    have := Finset.card_le_card_of_injOn (s := Finset.univ.filter fun j : Fin n => j.val < i.val) (t := Finset.range i.val)
      (fun j => j.val) (fun j hj => Finset.mem_coe.2 (Finset.mem_range.2 (Finset.mem_filter.1 hj).2)) (fun a _ b _ h => Fin.ext h)
    rwa [Finset.card_range] at this
  omega

/-- A sum over the first `k` sorted entries is the sum over `S`. -/
theorem sum_prefix {A : Type*} [AddCommMonoid A] (hk : k ≤ n) (f : Fin n → A) : ∑ i : Fin k, f (σ (Fin.castLE hk i)) = ∑ j ∈ S, f j := by
  have hinj : Function.Injective fun i : Fin k => σ (Fin.castLE hk i) := hσ.comp (Fin.castLE_injective hk)
  have himg : Finset.univ.image (fun i : Fin k => σ (Fin.castLE hk i)) = S := by
    refine Finset.eq_of_subset_of_card_le (fun a ha => ?_) ?_
    · obtain ⟨i, -, rfl⟩ := Finset.mem_image.1 ha
      exact mem_of_lt σ hσ p hp S hS hsep _ i.isLt
    · rw [Finset.card_image_of_injective _ hinj, hS, Finset.card_univ, Fintype.card_fin]
  rw [← himg, Finset.sum_image fun a _ b _ h => hinj h]

end Cert.Prefix

end
-- ==== Proof.ReferenceIdeal.Mean.lean ====
module

public import proofs.«01_k».proof.Proof.ReferenceIdeal.Read
public import proofs.«01_k».proof.Proof.Math.Prefix
public import proofs.«01_k».proof.Proof.Math.Posterior

@[expose] public section

/-! # The reference's result on a row whose 128 largest scores a set holds -/

set_option maxRecDepth 16384

noncomputable section

namespace Cert.ReferenceIdeal.Hand

open Cert.ReferenceIdeal Cert.ReferenceIdeal.Gen
open Idealize.ShloMosaic Idealize.ShloMosaic.TcCoe
open Cert.Consts Cert.Posterior

theorem word_one : Ideal.ofBits .f32 0x3F800000#32 = ((1 : ℝ) : EReal) := by
  simp [Ideal.ofBits, Ideal.ieee, -EReal.coe_mul]; norm_num

theorem gt_iff (x y : EReal) : (FloatOps.cmpfTotal (F := Ideal) (φ := .f32) .gt x y == 1#1) = true ↔ y < x := by
  show (BitVec.ofBool (decide (y < x)) == 1#1) = true ↔ y < x
  by_cases h : y < x <;> simp [h]

variable (q : FVec Ideal S1024x64 .f32) (k : FVec Ideal S100000x64 .f32) (v h : FVec Ideal S100000 .f32)

/-- The similarity of a query and a key. -/
def sim (i : Fin 1024) (j : Fin 100000) : EReal := ∑ x, (q (ix2 i x) * k (ix2 j x) : EReal)

/-- The weight of an entry before the weights are divided by their sum. -/
def joined (i : Fin 1024) (j : Fin 100000) : EReal :=
  Ideal.exp (sim q k i j - ((1 : ℝ) : EReal)) * (h (ix1 j) * (alpha : EReal) + (beta : EReal))

theorem order_sorted (i : Fin 1024) (a b : Fin 100000) (hab : a < b) :
    ¬ (mass q k h (ix2 i (order q k h i a)) : EReal) < mass q k h (ix2 i (order q k h i b)) := fun hlt => by
  have := sortedFrom_noInversion
    (fun a c => FloatOps.cmpfTotal (F := Ideal) .gt (mass q k h (ix2 i a)) (mass q k h (ix2 i c)) == 1#1)
    (fun a c => FloatOps.cmpfTotal (F := Ideal) .gt (mass q k h (ix2 i a)) (mass q k h (ix2 i c)) == 1#1)
    (fun a c hac => Bool.eq_false_iff.2 fun hca => lt_asymm ((gt_iff _ _).1 hac) ((gt_iff _ _).1 hca))
    (fun _ _ h => h)
    (fun a c d hac hcd => Bool.eq_false_iff.2 fun had => by
      have h1 := fun e => Bool.eq_false_iff.1 hac ((gt_iff _ _).2 e)
      have h2 := fun e => Bool.eq_false_iff.1 hcd ((gt_iff _ _).2 e)
      exact absurd ((gt_iff _ _).1 had) (not_lt.2 ((not_lt.1 h1).trans (not_lt.1 h2)))) a b hab
  exact Bool.eq_false_iff.1 this ((gt_iff _ _).2 hlt)

theorem mass_val (i : Fin 1024) (j : Fin 100000) :
    mass q k h (ix2 i j) = Ideal.exp (sim q k i j - ((1 : ℝ) : EReal)) * (h (ix1 j) + (beta : EReal)) := by
  rw [mass_read, word_one, word_beta]
  rfl

theorem joint_val (ix : IVec S1024x128x1 32) (i : Fin 1024) (p : Fin 128) (j : Fin 100000) (hj : ix (ix3 i p 0) = BitVec.ofNat 32 j.val) :
    joint q k h ix (ix2 i p) = joined q k h i j := by
  rw [joint_read q k h ix i p j hj, word_one, word_beta, word_alpha]
  rfl

theorem joined_val {i : Fin 1024} {j : Fin 100000} {s H : ℝ} (hs : sim q k i j = s) (hH : h (ix1 j) = (H : EReal)) :
    joined q k h i j = ((weight s H : ℝ) : EReal) := by
  unfold joined
  rw [hs, hH, ← EReal.coe_sub, ← EReal.coe_mul, ← EReal.coe_add, Ideal.exp_coe, ← EReal.coe_mul]
  rfl

theorem starts_places (i : Fin 1024) (p : Fin 128) :
    starts (places q k h) (ix3 i p 0) = BitVec.ofNat 32 (order q k h i (Fin.castLE (by norm_num) p)).val := by
  have hp := places_read q k h i p
  have hlt := (order q k h i (Fin.castLE (by norm_num) p)).isLt
  rw [starts_read _ i p (by rw [hp, BitVec.toNat_ofNat]; omega), hp]

section
variable (hh : ∀ j, (h (ix1 j) : EReal) < ⊤)
include hh

theorem joined_nonneg {i : Fin 1024} {j : Fin 100000} (he : entryOf (sim q k i j) (h (ix1 j)) ≠ ⊥) : 0 ≤ joined q k h i j := by
  obtain ⟨H, hH, hp⟩ := entry_prior (hh j) he
  unfold joined
  rw [hH, ← EReal.coe_mul, ← EReal.coe_add]
  exact mul_nonneg (exp_nonneg _) (EReal.coe_nonneg.2 (shrunk_pos hp).le)

theorem joined_top {i : Fin 1024} {j : Fin 100000} (he : entryOf (sim q k i j) (h (ix1 j)) = ⊤) : joined q k h i j = ⊤ := by
  obtain ⟨H, hH, hp⟩ := entry_prior (hh j) (by rw [he]; exact top_ne_bot)
  unfold joined
  rw [entry_top (hh j) he, hH, ← EReal.coe_mul, ← EReal.coe_add, EReal.top_sub_coe, Ideal.exp_top, EReal.top_mul_coe_of_pos (shrunk_pos hp)]

variable (i : Fin 1024) (S : Finset (Fin 100000)) (hS : S.card = 128)
  (hsep : ∀ a ∈ S, ∀ b, b ∉ S → entryOf (sim q k i b) (h (ix1 b)) < entryOf (sim q k i a) (h (ix1 a)))
include hS hsep

/-- Where `S` holds 128 entries and every score outside it is smaller, the result is the weighted sum over `S`. -/
theorem mean_sum : mean (joint q k h (starts (places q k h))) (Host.gather gather_S100000_S1024x128x1_S1024x128_n_0_n_n_0_2_1 v (starts (places q k h))) (ix2 i 0)
    = ∑ j ∈ S, Ideal.div (joined q k h i j) (∑ j ∈ S, joined q k h i j) * v (ix1 j) := by
  have hpre : ∀ f : Fin 100000 → EReal, ∑ p : Fin 128, f (order q k h i (Fin.castLE (by norm_num) p)) = ∑ j ∈ S, f j := fun f =>
    Prefix.sum_prefix (order q k h i) (sortedFrom_injective _) (fun j => mass q k h (ix2 i j)) (order_sorted q k h i) S hS
      (fun a ha b hb => by
        simp only [mass_val]
        exact mass_lt (hh b) (hh a) (hsep a ha b hb)) (by norm_num) f
  have hj := fun p : Fin 128 => joint_val q k h _ i p _ (starts_places q k h i p)
  have ht := fun p : Fin 128 => take_read v _ i p _ (starts_places q k h i p)
  rw [mean_read]
  simp only [hj, ht]
  rw [hpre fun j => joined q k h i j, ← hpre fun j => Ideal.div (joined q k h i j) (∑ j ∈ S, joined q k h i j) * v (ix1 j)]

variable (hne : ∀ j ∈ S, entryOf (sim q k i j) (h (ix1 j)) ≠ ⊥)
include hne

/-- If a score is infinite upwards, the result is zero: the weights are divided by an infinite sum. -/
theorem mean_top (ht : ∃ j, entryOf (sim q k i j) (h (ix1 j)) = ⊤) :
    mean (joint q k h (starts (places q k h))) (Host.gather gather_S100000_S1024x128x1_S1024x128_n_0_n_n_0_2_1 v (starts (places q k h))) (ix2 i 0) = 0 := by
  obtain ⟨j, hj⟩ := ht
  have hjS : j ∈ S := by
    by_contra hn
    obtain ⟨a, ha⟩ := Finset.card_pos.1 (by omega : 0 < S.card)
    exact absurd (hsep a ha j hn) (by rw [hj]; exact not_top_lt)
  have hsum : ∑ j ∈ S, joined q k h i j = ⊤ := top_le_iff.1
    ((joined_top q k h hh hj).ge.trans (Finset.single_le_sum (fun a ha => joined_nonneg q k h hh (hne a ha)) hjS))
  rw [mean_sum q k v h hh i S hS hsep, hsum]
  refine Finset.sum_eq_zero fun a _ => ?_
  unfold Ideal.div
  rw [if_neg EReal.top_ne_zero, EReal.inv_top, mul_zero, zero_mul]

variable (W : Fin 100000 → ℝ) (hv : ∀ j, v (ix1 j) = ((W j : ℝ) : EReal))
include hv

/-- Otherwise it is the mean over `S`. -/
theorem mean_val (ht : ¬∃ j, entryOf (sim q k i j) (h (ix1 j)) = ⊤) :
    mean (joint q k h (starts (places q k h))) (Host.gather gather_S100000_S1024x128x1_S1024x128_n_0_n_n_0_2_1 v (starts (places q k h))) (ix2 i 0)
      = ((∑ j ∈ S, weight (sim q k i j).toReal (EReal.toReal (h (ix1 j)))
          / (∑ j ∈ S, weight (sim q k i j).toReal (EReal.toReal (h (ix1 j)))) * W j : ℝ) : EReal) := by
  have hr (j : Fin 100000) (hj : j ∈ S) : 0 < EReal.toReal (h (ix1 j)) + beta
      ∧ joined q k h i j = ((weight (sim q k i j).toReal (EReal.toReal (h (ix1 j))) : ℝ) : EReal) := by
    obtain ⟨s, H, hs, hH, hp, -⟩ := entry_real (hh j) (hne j hj) (fun e => ht ⟨j, e⟩)
    have hH' : EReal.toReal (h (ix1 j)) = H := (congrArg EReal.toReal hH).trans (EReal.toReal_coe H)
    rw [hH', hs, EReal.toReal_coe]
    exact ⟨hp, joined_val q k h hs hH⟩
  have hpos : 0 < ∑ j ∈ S, weight (sim q k i j).toReal (EReal.toReal (h (ix1 j))) :=
    sum_weight_pos S (fun j => (sim q k i j).toReal) (fun j => EReal.toReal (h (ix1 j))) (fun j hj => (hr j hj).1) (Finset.card_pos.1 (by omega))
  have hsum : ∑ j ∈ S, joined q k h i j = ((∑ j ∈ S, weight (sim q k i j).toReal (EReal.toReal (h (ix1 j))) : ℝ) : EReal) :=
    (Finset.sum_congr rfl fun j hj => (hr j hj).2).trans (coe_sum S _).symm
  rw [mean_sum q k v h hh i S hS hsep, hsum]
  refine Eq.trans (Finset.sum_congr rfl fun j hj => ?_) (coe_sum S _).symm
  rw [(hr j hj).2, hv, Ideal.div_coe hpos.ne', ← EReal.coe_mul, ← EReal.coe_mul, mul_one_div]

end

end Cert.ReferenceIdeal.Hand

end
-- ==== Proof.Claim.Mask.lean ====
module

public import proofs.«01_k».proof.On_separated
public import proofs.«01_k».proof.Proof.Math.TopK
public import proofs.«01_k».proof.Proof.Math.Table
public import proofs.«01_k».proof.Proof.Math.Posterior

@[expose] public section

/-! # The mask read as a statement about the scores -/

set_option maxRecDepth 16384

noncomputable section

namespace Cert.On_separated

open Idealize.ShloMosaic
open Cert.Consts Cert.Posterior Cert.Table Cert.Scores
open Facts

variable [Facts] (q : FVec Ideal S1024x64 .f32) (k : FVec Ideal S100000x64 .f32) (v h : FVec Ideal S100000 .f32)

/-- The log scores. -/
def logs : FVec Ideal S1024x100000 .f32 :=
  addf (Host.dotGeneral dot_S1024x64_S64x100000_S1024x100000_1_0_0_1_n_n none q (transpose S64x100000 [1, 0] k transposes_S100000x64_S64x100000_1_0))
    (broadcastInDim S1024x100000 ![0, 1] bcast_S1x100000_S1024x100000_0_1 (broadcastInDim S1x100000 ![1] bcast_S100000_S1x100000_1
      (Host.log (addf h (broadcastInDim S100000 ![] bcast_S_S100000 (constant S_ .f32 0x322BCC77#32))))))

/-- A log score as an extended real. -/
def entry (i : Fin 1024) (j : Fin 100000) : EReal :=
  entryOf (∑ x, q (ix2 i x) * k (ix2 j x)) (h (ix1 j))

theorem logs_read (i : Fin 1024) (j : Fin 100000) : logs q k h (ix2 i j) = entry q k h i j := by
  unfold logs entry entryOf; rw [← word_beta]; pointwise

/-- A comparison's bit as a number. -/
def bit (p : Prop) [Decidable p] : EReal := FloatOps.uitofp (F := Ideal) .f32 (BitVec.ofBool (decide p))

theorem bit_eq (p : Prop) [Decidable p] : bit p = ((if p then 1 else 0 : ℕ) : ℝ) := by
  unfold bit
  show ((((BitVec.ofBool (decide p)).toNat : ℝ)) : EReal) = _
  split <;> simp_all

/-- One number for every row. -/
def col (w : BitVec 32) : FVec Ideal S1024x1 .f32 := broadcastInDim S1024x1 ![] bcast_S_S1024x1 (constant S_ .f32 w)

/-- The number of the last threshold that the 128th largest entry reaches, kept within 0 to 4095. -/
def numbers (L : FVec Ideal S1024x100000 .f32) : FVec Ideal S1024x1 .f32 :=
  minimumf (maximumf (Host.floor (Host.divf (subf
    (extractStridedSlice S1024x1 ![0, 127] (Host.topK S1024x128 1 (FloatOps.cmpfTotal .gt) L sliceFits_S1024x100000_S1024x128).1 slices_S1024x128_S1024x1_0_127)
    (col 0xC14CCCCD#32)) (col 0x3A266666#32))) (col 0x00000000#32)) (col 0x457FF000#32)

/-- How many of a row's entries reach its threshold. -/
def reaching (L : FVec Ideal S1024x100000 .f32) (t : FVec Ideal S1024x1 .f32) : FVec Ideal S1024x1 .f32 :=
  broadcastInDim S1024x1 ![0] bcast_S1024_S1024x1_0
    (Host.reduceAdd (uitofp .f32 (cmpf .oge L (broadcastInDim S1024x100000 ![0, 1] bcast_S1024x1_S1024x100000_0_1 t)))
      (constant S_ .f32 0x00000000#32) reducesTo_S1024x100000_S1024_d1 h_S_)

/-- The threshold of a number. -/
def lowers (n : FVec Ideal S1024x1 .f32) : FVec Ideal S1024x1 .f32 := addf (col 0xC14CCCCD#32) (mulf n (col 0x3A266666#32))

/-- The threshold between two neighbouring ones. -/
def inners (l a b : FVec Ideal S1024x1 .f32) : FVec Ideal S1024x1 .f32 :=
  addf l (mulf (col 0x3A266666#32) (Host.divf (subf a (col 0x43000000#32)) (subf a b)))

/-- The mask from the counts at the three thresholds. -/
def bits (n a b d : FVec Ideal S1024x1 .f32) : IVec S1024x1 1 :=
  ori (cmpf .oeq a (col 0x43000000#32))
    (andi (andi (andi (andi (cmpf .ogt n (col 0x00000000#32)) (cmpf .olt n (col 0x457FF000#32))) (cmpf .oge a (col 0x43000000#32)))
      (cmpf .olt b (col 0x43000000#32))) (cmpf .oeq d (col 0x43000000#32)))

theorem fn_eq : fn q k v h = bits (numbers (logs q k h)) (reaching (logs q k h) (lowers (numbers (logs q k h))))
    (reaching (logs q k h) (lowers (addf (numbers (logs q k h)) (col 0x3F800000#32))))
    (reaching (logs q k h) (inners (lowers (numbers (logs q k h))) (reaching (logs q k h) (lowers (numbers (logs q k h))))
      (reaching (logs q k h) (lowers (addf (numbers (logs q k h)) (col 0x3F800000#32)))))) := rfl

theorem bit_logic : ∀ a b c d e f : Bool, IntOp.ori (BitVec.ofBool a) (IntOp.andi (IntOp.andi (IntOp.andi (IntOp.andi (BitVec.ofBool b) (BitVec.ofBool c))
    (BitVec.ofBool d)) (BitVec.ofBool e)) (BitVec.ofBool f)) = 1#1 → a = true ∨ b = true ∧ c = true ∧ d = true ∧ e = true ∧ f = true := by
  decide

theorem bits_read (n a b d : FVec Ideal S1024x1 .f32) (i : Fin 1024) (hm : bits n a b d (ix2 i 0) = 1#1) :
    a (ix2 i 0) = Ideal.ofBits .f32 0x43000000#32 ∨ 0 < n (ix2 i 0) ∧ n (ix2 i 0) < Ideal.ofBits .f32 0x457FF000#32
      ∧ Ideal.ofBits .f32 0x43000000#32 ≤ a (ix2 i 0) ∧ b (ix2 i 0) < Ideal.ofBits .f32 0x43000000#32
      ∧ d (ix2 i 0) = Ideal.ofBits .f32 0x43000000#32 := by
  have e : bits n a b d (ix2 i 0) = IntOp.ori (BitVec.ofBool (decide (a (ix2 i 0) = Ideal.ofBits .f32 0x43000000#32)))
      (IntOp.andi (IntOp.andi (IntOp.andi (IntOp.andi (BitVec.ofBool (decide (0 < n (ix2 i 0))))
        (BitVec.ofBool (decide (n (ix2 i 0) < Ideal.ofBits .f32 0x457FF000#32))))
        (BitVec.ofBool (decide (Ideal.ofBits .f32 0x43000000#32 ≤ a (ix2 i 0)))))
        (BitVec.ofBool (decide (b (ix2 i 0) < Ideal.ofBits .f32 0x43000000#32))))
        (BitVec.ofBool (decide (d (ix2 i 0) = Ideal.ofBits .f32 0x43000000#32)))) := by
    unfold bits col
    pointwise
  have h := bit_logic _ _ _ _ _ _ (e.symm.trans hm)
  simpa only [decide_eq_true_eq] using h

theorem numbers_read (L : FVec Ideal S1024x100000 .f32) (i : Fin 1024) : numbers L (ix2 i 0)
    = min (max (Ideal.liftRound Int.floor (Ideal.div
        ((Host.topK S1024x128 1 (FloatOps.cmpfTotal .gt) L sliceFits_S1024x100000_S1024x128).1 (ix2 i 127) - Ideal.ofBits .f32 0xC14CCCCD#32)
        (Ideal.ofBits .f32 0x3A266666#32))) 0) (Ideal.ofBits .f32 0x457FF000#32) := by
  unfold numbers col
  pointwise

theorem reaching_read (L : FVec Ideal S1024x100000 .f32) (t : FVec Ideal S1024x1 .f32) (i : Fin 1024) :
    reaching L t (ix2 i 0) = ∑ x, bit (t (ix2 i 0) ≤ L (ix2 i x)) := by
  unfold reaching bit
  pointwise

theorem lowers_read (n : FVec Ideal S1024x1 .f32) (i : Fin 1024) :
    lowers n (ix2 i 0) = Ideal.ofBits .f32 0xC14CCCCD#32 + n (ix2 i 0) * Ideal.ofBits .f32 0x3A266666#32 := by
  unfold lowers col
  pointwise

theorem next_read (n : FVec Ideal S1024x1 .f32) (i : Fin 1024) : addf n (col 0x3F800000#32) (ix2 i 0) = n (ix2 i 0) + 1 := by
  unfold col
  pointwise

theorem inners_read (l a b : FVec Ideal S1024x1 .f32) (i : Fin 1024) : inners l a b (ix2 i 0)
    = l (ix2 i 0) + Ideal.ofBits .f32 0x3A266666#32 * Ideal.div (a (ix2 i 0) - Ideal.ofBits .f32 0x43000000#32) (a (ix2 i 0) - b (ix2 i 0)) := by
  unfold inners col
  pointwise

/-- The number of a real score. -/
theorem number_eq (x : ℝ) : ∃ n : ℕ, n ≤ 4095 ∧ min (max (Ideal.liftRound Int.floor (Ideal.div ((x : EReal) - Ideal.ofBits .f32 0xC14CCCCD#32)
    (Ideal.ofBits .f32 0x3A266666#32))) 0) (Ideal.ofBits .f32 0x457FF000#32) = ((n : ℝ) : EReal) := by
  refine ⟨(min (max ⌊(x - low) * (1 / cell)⌋ 0) 4095).toNat, by omega, ?_⟩
  rw [word_low, word_cell, word_4095, ← EReal.coe_sub, Ideal.div_coe cell_pos.ne', ← EReal.coe_mul]
  show min (max (((⌊(x - low) * (1 / cell)⌋ : ℝ)) : EReal) ((0 : ℝ) : EReal)) ((4095 : ℝ) : EReal) = _
  rw [← EReal.coe_strictMono.monotone.map_max, ← EReal.coe_strictMono.monotone.map_min]
  have h0 : (0 : ℤ) ≤ min (max ⌊(x - low) * (1 / cell)⌋ 0) 4095 := by omega
  have e : (((min (max ⌊(x - low) * (1 / cell)⌋ 0) 4095).toNat : ℕ) : ℝ) = ((min (max ⌊(x - low) * (1 / cell)⌋ 0) 4095 : ℤ) : ℝ) := by
    rw [← Int.cast_natCast, Int.toNat_of_nonneg h0]
  rw [e]
  push_cast
  rfl

/-- The same of a score that may be infinite. -/
theorem number_reads {x : EReal} {y : ℝ} (h : Reads x y) : ∃ n : ℕ, n ≤ 4095 ∧ min (max (Ideal.liftRound Int.floor (Ideal.div
    (x - Ideal.ofBits .f32 0xC14CCCCD#32) (Ideal.ofBits .f32 0x3A266666#32))) 0) (Ideal.ofBits .f32 0x457FF000#32) = ((n : ℝ) : EReal) := by
  obtain rfl | ⟨rfl, -⟩ | ⟨rfl, -⟩ := h
  · exact number_eq y
  · refine ⟨0, by omega, ?_⟩
    rw [word_low, word_cell, word_4095, EReal.bot_sub, Ideal.div_coe cell_pos.ne', EReal.bot_mul_coe_of_pos (one_div_pos.2 cell_pos)]
    show min (max (⊥ : EReal) 0) ((4095 : ℝ) : EReal) = _
    rw [max_eq_right bot_le, min_eq_left (by exact_mod_cast (by norm_num : (0 : ℝ) ≤ 4095))]
    simp
  · refine ⟨4095, le_rfl, ?_⟩
    rw [word_low, word_cell, word_4095, EReal.top_sub_coe, Ideal.div_coe cell_pos.ne', EReal.top_mul_coe_of_pos (one_div_pos.2 cell_pos)]
    show min (max (⊤ : EReal) 0) ((4095 : ℝ) : EReal) = _
    rw [max_eq_left le_top, min_eq_right le_top]
    simp

/-- The threshold between two neighbouring ones, of real counts. -/
theorem inner_val (n : ℕ) {a b : ℝ} (h : a - b ≠ 0) : Ideal.ofBits .f32 0xC14CCCCD#32 + ((n : ℝ) : EReal) * Ideal.ofBits .f32 0x3A266666#32
    + Ideal.ofBits .f32 0x3A266666#32 * Ideal.div ((a : EReal) - Ideal.ofBits .f32 0x43000000#32) ((a : EReal) - (b : EReal))
      = ((thr n + cell * ((a - 128) / (a - b)) : ℝ) : EReal) := by
  rw [word_low, word_cell, word_128, ← EReal.coe_sub, ← EReal.coe_sub, Ideal.div_coe h]
  simp only [← EReal.coe_mul, ← EReal.coe_add]
  rw [mul_one_div]
  rfl

theorem thr_val (n : ℕ) : Ideal.ofBits .f32 0xC14CCCCD#32 + ((n : ℝ) : EReal) * Ideal.ofBits .f32 0x3A266666#32 = ((thr n : ℝ) : EReal) := by
  rw [word_low, word_cell, ← EReal.coe_mul, ← EReal.coe_add]
  rfl

/-- The count at a real threshold. -/
theorem reaching_val (i : Fin 1024) (t : FVec Ideal S1024x1 .f32) {T : ℝ} (ht : t (ix2 i 0) = (T : EReal)) (hT : low ≤ T) (hT' : T ≤ 0) :
    reaching (logs q k h) t (ix2 i 0) = (((hits (fun j => rep (entry q k h i j)) T).card : ℝ) : EReal) := by
  rw [reaching_read, ht]
  simp only [logs_read, bit_eq, fun x => (rep_reads (entry q k h i x)).le_iff (EReal.coe_le_coe_iff.2 hT) (EReal.coe_nonpos.2 hT'), EReal.coe_le_coe_iff]
  rw [← coe_sum, EReal.coe_eq_coe_iff, ← Nat.cast_sum]
  unfold hits
  rw [Finset.card_filter]

/-- On a row of the mask, exactly 128 scores reach a threshold, or the one between it and the next. -/
theorem separates (i : Fin 1024) (hm : fn q k v h (ix2 i 0) = 1#1) {g : Fin 100000 → ℝ} (hg : g = fun j => rep (entry q k h i j)) :
    ∃ n : ℕ, n ≤ 4095 ∧ ((hits g (thr n)).card = 128 ∨ n ≠ 0 ∧ n ≠ 4095 ∧ 128 ≤ (hits g (thr n)).card ∧ (hits g (thr (n + 1))).card < 128
      ∧ (hits g (thr n + cell * ((((hits g (thr n)).card : ℝ) - 128) / (((hits g (thr n)).card : ℝ) - ((hits g (thr (n + 1))).card : ℝ))))).card = 128) := by
  subst hg
  rw [fn_eq] at hm
  have hn0 := numbers_read (logs q k h) i
  rw [TopK.values_read _ _ (by norm_num) _ i (127 : Fin 128), logs_read] at hn0
  obtain ⟨n, hn, e⟩ := number_reads (rep_reads (entry q k h i
    (TopK.order (FloatOps.cmpfTotal (F := Ideal) .gt) (logs q k h) i (Fin.castLE (by norm_num) (127 : Fin 128)))))
  rw [e] at hn0
  have hl : lowers (numbers (logs q k h)) (ix2 i 0) = ((thr n : ℝ) : EReal) := by rw [lowers_read, hn0, thr_val]
  have hu : lowers (addf (numbers (logs q k h)) (col 0x3F800000#32)) (ix2 i 0) = ((thr (n + 1) : ℝ) : EReal) := by
    rw [lowers_read, next_read, hn0, ← thr_val, Nat.cast_succ, EReal.coe_add]
    rfl
  have ha := reaching_val q k h i _ hl (low_le_thr n) (thr_nonpos (by omega))
  have hb := reaching_val q k h i _ hu (low_le_thr (n + 1)) (thr_nonpos (by omega))
  have h := bits_read _ _ _ _ i hm
  rw [ha, hb, hn0, word_128, word_4095] at h
  refine ⟨n, hn, ?_⟩
  rcases h with h | ⟨h0, h1, h2, h3, h4⟩
  · exact Or.inl (by exact_mod_cast h)
  · have k0 : n ≠ 0 := by rintro rfl; simp at h0
    have k1 : n ≠ 4095 := by rintro rfl; exact absurd h1 (by norm_num)
    have k2 := EReal.coe_le_coe_iff.1 h2
    have k3 := EReal.coe_lt_coe_iff.1 h3
    have hlt := k3.trans_le k2
    have hi := inner_val n (sub_ne_zero.2 hlt.ne')
    have hin := inners_read (lowers (numbers (logs q k h))) (reaching (logs q k h) (lowers (numbers (logs q k h))))
      (reaching (logs q k h) (lowers (addf (numbers (logs q k h)) (col 0x3F800000#32)))) i
    rw [hl, ha, hb, ← thr_val, hi] at hin
    rw [reaching_val q k h i _ hin ((low_le_thr n).trans (le_add_of_nonneg_right
      (mul_nonneg cell_pos.le (div_nonneg (sub_nonneg.2 k2) (sub_nonneg.2 hlt.le)))))
      ((between_le n k3 k2).trans (thr_nonpos (by omega)))] at h4
    exact Or.inr ⟨k0, k1, by exact_mod_cast k2, by exact_mod_cast k3, by exact_mod_cast h4⟩

end Cert.On_separated

end
-- ==== Proof.Claim.Pre.lean ====
module

public import proofs.«01_k».proof.Pre_proper_inputs
public import proofs.«01_k».proof.Proof.Math.Consts
public import Idealize.ShloMosaic.Lib.Pointwise

@[expose] public section

/-! # The precondition read: the values are real, the histogram is below plus infinity -/

noncomputable section

namespace Cert.Pre_proper_inputs

open Idealize.ShloMosaic
open Cert.Consts
open Facts

/-- An extended real below infinity in magnitude is a real. -/
theorem real_of_abs (x : EReal) (hx : BitVec.ofBool (decide (max x (-x) < Ideal.ofBits .f32 0x7F800000#32)) = 1#1) : ∃ y : ℝ, x = y := by
  rw [word_inf] at hx
  have h : max x (-x) < ⊤ := by
    by_contra hc
    rw [decide_eq_false hc] at hx
    exact absurd hx (by decide)
  induction x with
  | bot => simp at h
  | top => simp at h
  | coe y => exact ⟨y, rfl⟩

variable [Facts] {q : FVec Ideal S1024x64 .f32} {k : FVec Ideal S100000x64 .f32} {v h : FVec Ideal S100000 .f32}

section
variable (hp : fn q k v h = (fun _ => 1#1, fun _ => 1#1))
include hp

theorem v_real (j : Fin 100000) : ∃ y : ℝ, v (ix1 j) = ((y : ℝ) : EReal) := by
  have e : (fn q k v h).1 (ix1 j) = 1#1 := by rw [hp]
  refine real_of_abs _ (Eq.trans ?_ e)
  unfold fn; pointwise; rfl

theorem h_lt (j : Fin 100000) : (h (ix1 j) : EReal) < ⊤ := by
  have e : (fn q k v h).2 (ix1 j) = 1#1 := by rw [hp]
  have e' : (fn q k v h).2 (ix1 j) = BitVec.ofBool (decide ((h (ix1 j) : EReal) < Ideal.ofBits .f32 0x7F800000#32)) := by
    unfold fn; pointwise
  rw [e', word_inf] at e
  by_contra hc
  rw [decide_eq_false hc] at e
  exact absurd e (by decide)

end

end Cert.Pre_proper_inputs

end
-- ==== Proof.Claim.Equal.lean ====
module

public import proofs.«01_k».proof.Proof.KernelIdeal.Value
public import proofs.«01_k».proof.Proof.ReferenceIdeal.Mean
public import proofs.«01_k».proof.Proof.Claim.Mask
public import proofs.«01_k».proof.Proof.Claim.Pre

@[expose] public section

/-! # Kernel and reference agree on the rows of the mask -/

noncomputable section

namespace Cert.KernelIdeal.Hand.Proper

open Cert.KernelIdeal
open Idealize.ShloMosaic Idealize.ShloMosaic.TcCoe
open Cert.Consts Cert.Posterior Cert.Table Cert.Scores Cert.Search Cert.RowSums

variable {m : (ℓ : Loc nD τ sig) → Buf (Elt Ideal) ℓ} {c : Dev nD} (A : Proper m c)

/-- The entries a row's threshold keeps. -/
def kept (i : Fin 1024) : Finset (Fin 100000) := hits (A.scores i) (inner (A.G i))

theorem kept_card {i : Fin 1024} (hs : A.Separated i) : (A.kept i).card = 128 :=
  (cntN_spread (A.scores i) (inner_low hs.1)).symm.trans hs.2.1

theorem inner_nonpos {i : Fin 1024} (hs : A.Separated i) : inner (A.G i) ≤ 0 := by
  have ht : top (A.G i) ≤ 4095 := last_le
  by_cases h : reach (A.G i) (top (A.G i)) = 128
  · rw [inner_of_top h]
    exact thr_nonpos (by omega)
  · have h1 : top (A.G i) ≠ 4095 := (hs.2.2.resolve_left h).2
    have h2 : (reach (A.G i) (top (A.G i) + 1) : ℝ) < 128 := by exact_mod_cast count_next (reach_anti _) hs.1 h1
    have h3 : (128 : ℝ) ≤ reach (A.G i) (top (A.G i)) := by exact_mod_cast hs.1
    exact (between_le (top (A.G i)) h2 h3).trans (thr_nonpos (by omega))

theorem kept_iff {i : Fin 1024} (hs : A.Separated i) (j : Fin 100000) : j ∈ A.kept i ↔ ((inner (A.G i) : ℝ) : EReal) ≤ entry m c i j := by
  rw [(rep_reads (entry m c i j)).le_iff (EReal.coe_le_coe_iff.2 (inner_low hs.1)) (EReal.coe_nonpos.2 (A.inner_nonpos hs)), EReal.coe_le_coe_iff]
  unfold kept hits
  rw [Finset.mem_filter]
  exact and_iff_right (Finset.mem_univ j)

theorem kept_ne {i : Fin 1024} (hs : A.Separated i) (j : Fin 100000) (hj : j ∈ A.kept i) : entry m c i j ≠ ⊥ :=
  ((EReal.bot_lt_coe _).trans_le ((A.kept_iff hs j).1 hj)).ne'

/-- Every kept score is larger than every other. -/
theorem kept_sep {i : Fin 1024} (hs : A.Separated i) : ∀ a ∈ A.kept i, ∀ b, b ∉ A.kept i → entry m c i b < entry m c i a := fun a ha b hb =>
  (not_le.1 fun h => hb ((A.kept_iff hs b).2 h)).trans_le ((A.kept_iff hs a).1 ha)

/-- A kept entry has a positive prior and a real score, unless some score is infinite upwards. -/
theorem kept_real {i : Fin 1024} (hs : A.Separated i) (ht : ¬∃ j, entry m c i j = ⊤) (j : Fin 100000) (hj : j ∈ A.kept i) :
    0 < (hist m c j).toReal + beta ∧ A.scores i j = score (sim m c i j).toReal (hist m c j).toReal := by
  obtain ⟨s, H, h1, h2, hp, he⟩ := entry_real (A.hh j) (A.kept_ne hs j hj) (fun e => ht ⟨j, e⟩)
  have h2' : (hist m c j).toReal = H := (congrArg EReal.toReal h2).trans (EReal.toReal_coe H)
  have h1' : (sim m c i j).toReal = s := (congrArg EReal.toReal h1).trans (EReal.toReal_coe s)
  have e : A.scores i j = rep (score s H : ℝ) := congrArg rep he
  rw [h1', h2', e, rep_coe]
  exact ⟨hp, rfl⟩

open scoped Classical in
/-- The mean over the kept entries, or zero if a score is infinite upwards. -/
def target (i : Fin 1024) : EReal :=
  if ∃ j, entry m c i j = ⊤ then 0 else
    ((∑ j ∈ A.kept i, weight (sim m c i j).toReal (hist m c j).toReal
      / (∑ j ∈ A.kept i, weight (sim m c i j).toReal (hist m c j).toReal) * A.W j : ℝ) : EReal)

theorem quot_eq {i : Fin 1024} (hs : A.Separated i) : A.quot i = A.target i := by
  unfold quot target
  by_cases ht : ∃ j, entry m c i j = ⊤
  · rw [if_pos ht, if_pos ht]
  rw [if_neg ht, if_neg ht]
  have hk := A.kept_real hs ht
  have hne : (A.kept i).Nonempty := Finset.card_pos.1 (by rw [A.kept_card hs]; decide)
  have hd : denS (A.G i) A.R (inner (A.G i)) 49
      = ∑ j ∈ A.kept i, Real.exp (score (sim m c i j).toReal (hist m c j).toReal) * ratio (hist m c j).toReal :=
    (denS_spread (A.scores i) (fun j => ratio (hist m c j).toReal) (inner_low hs.1)).trans
      (Finset.sum_congr rfl fun j hj => by rw [(hk j hj).2])
  have hn : numS (A.G i) A.R A.V (inner (A.G i)) 49
      = ∑ j ∈ A.kept i, Real.exp (score (sim m c i j).toReal (hist m c j).toReal) * ratio (hist m c j).toReal * A.W j :=
    (numS_spread (A.scores i) (fun j => ratio (hist m c j).toReal) A.W (inner_low hs.1)).trans
      (Finset.sum_congr rfl fun j hj => by rw [(hk j hj).2])
  have hpos : ∀ j ∈ A.kept i, 0 < (hist m c j).toReal + beta := fun j hj => (hk j hj).1
  have hp := sum_weight_pos (A.kept i) (fun j => (sim m c i j).toReal) (fun j => (hist m c j).toReal) hpos hne
  have hd0 : (∑ j ∈ A.kept i, Real.exp (score (sim m c i j).toReal (hist m c j).toReal) * ratio (hist m c j).toReal) ≠ 0 := by
    rw [den_eq (A.kept i) (fun j => (sim m c i j).toReal) (fun j => (hist m c j).toReal) hpos]
    exact (mul_pos (Real.exp_pos 1) hp).ne'
  rw [hd, hn, Ideal.div_coe hd0, ← EReal.coe_mul, mul_one_div,
    mean_eq (A.kept i) (fun j => (sim m c i j).toReal) (fun j => (hist m c j).toReal) A.W hpos hne]

/-- The reference's result of the same arguments. -/
theorem reference_eq (m' : (ℓ : Loc ReferenceIdeal.nD ReferenceIdeal.τ ReferenceIdeal.sig) → Buf (Elt Ideal) ℓ)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    {i : Fin 1024} (hs : A.Separated i) :
    (ReferenceIdeal.Value.res_main_v46 m' c : FVec Ideal ReferenceIdeal.S1024x1 .f32) (ix2 i 0) = A.target i := by
  refine (congrFun (ReferenceIdeal.Hand.res_eq m' c) (ix2 i 0)).trans ?_
  rw [h0, h1, h2, h3]
  unfold target
  by_cases ht : ∃ j, entry m c i j = ⊤
  · rw [if_pos ht]
    exact ReferenceIdeal.Hand.mean_top (queries m c) (memKeys m c) (memValues m c) (memHist m c) A.hh i (A.kept i) (A.kept_card hs)
      (A.kept_sep hs) (A.kept_ne hs) ht
  · rw [if_neg ht]
    exact ReferenceIdeal.Hand.mean_val (queries m c) (memKeys m c) (memValues m c) (memHist m c) A.hh i (A.kept i) (A.kept_card hs)
      (A.kept_sep hs) (A.kept_ne hs) A.W A.hv ht

/-- A row of the mask is separated. -/
theorem separated_of_mask [On_separated.Facts] {i : Fin 1024}
    (hm : On_separated.fn (F := Ideal) (m ((c.tc : Thread nD τ).loc main_arg0)) (m ((c.tc : Thread nD τ).loc main_arg1))
      (m ((c.tc : Thread nD τ).loc main_arg2)) (m ((c.tc : Thread nD τ).loc main_arg3)) (ix2 i 0) = 1#1) : A.Separated i := by
  obtain ⟨n, hn, h⟩ := On_separated.separates _ _ _ _ i hm (g := A.scores i) rfl
  have hr : ∀ l, (hits (A.scores i) (thr l)).card = reach (A.G i) l := fun l => (reach_spread (A.scores i) l).symm
  have hc : ∀ T, low ≤ T → cntN (A.G i) (T : EReal) 49 = (hits (A.scores i) T).card := fun T => cntN_spread (A.scores i)
  rcases h with h | ⟨h0, h1, h2, h3, h4⟩
  · have ht : reach (A.G i) (top (A.G i)) = 128 := count_last (reach_anti _) ⟨n, hn, (hr n).symm.trans h⟩
    refine ⟨ht.ge, ?_, Or.inl ht⟩
    rw [inner_of_top ht, cntN_thr]
    exact ht
  · rw [hr] at h2 h3
    have ht : top (A.G i) = n := last_eq (reach_anti _) hn h2 h3
    have hl : 128 ≤ reach (A.G i) (top (A.G i)) := by rw [ht]; exact h2
    refine ⟨hl, ?_, Or.inr ⟨by rw [ht]; exact h0, by rw [ht]; exact h1⟩⟩
    rw [hc _ (inner_low hl)]
    unfold inner
    rw [ht, ← hr, ← hr]
    exact h4

/-- The precondition read. -/
def ofProper [Pre_proper_inputs.Facts]
    (hp : Pre_proper_inputs.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1, fun _ => 1#1)) : Proper m c where
  W j := (Pre_proper_inputs.v_real hp j).choose
  hv j := (Pre_proper_inputs.v_real hp j).choose_spec
  hh j := Pre_proper_inputs.h_lt hp j

end Cert.KernelIdeal.Hand.Proper

end
-- ==== Proof.lean ====
/- The certificate's proof: the frames, the named constants, and the equality of the results on the mask. -/
module

public import proofs.«01_k».proof.Defs
public import proofs.«01_k».proof.Proof.Gen.ReferenceIdeal.Run
public import proofs.«01_k».proof.Proof.Gen.Pre_proper_inputs
public import proofs.«01_k».proof.Proof.Gen.On_separated
public import proofs.«01_k».proof.Proof.Kernel.Body
public import proofs.«01_k».proof.Proof.Claim.Equal
public import Idealize.ShloMosaic.Adequacy
public import Idealize.ShloMosaic.Init

@[expose] public section

noncomputable section

namespace Cert.Proof

open Idealize.ShloMosaic Idealize.ShloMosaic.TcCoe Idealize.SL.Sem
open Cert.KernelIdeal.Hand

/-- The bit-exact program ends with its arguments unchanged and every counter at zero. -/
theorem frame_Kernel : Cert.quiescent_Kernel (hKernel := Cert.Kernel.Gen.facts) := fun m ρ _ =>
  (θ_run Cert.Kernel.defs _ _).mono (fun _ h => ⟨fun c => Cert.Kernel.Hand.final_args h.1 c, h.2⟩)
    (Cert.Kernel.Hand.run_main (F := Bits) m ρ)

/-- The same of the idealized program. -/
theorem frame_KernelIdeal : Cert.quiescent_KernelIdeal (hKernelIdeal := Cert.KernelIdeal.Gen.facts) := fun m ρ _ =>
  (θ_run Cert.KernelIdeal.defs _ _).mono (fun _ h => ⟨fun c => final_args h.1 c, h.2⟩)
    (run_main (F := Ideal) ρ (Plan.none m))

/-- The same of the idealized program from proper inputs. -/
theorem frame_KernelIdeal_proper : Cert.quiescent_KernelIdeal_pre_proper_inputs (hKernelIdeal := Cert.KernelIdeal.Gen.facts)
    (hPre_proper_inputs := Cert.Pre_proper_inputs.Gen.facts) := fun m ρ _ =>
  frame_KernelIdeal m ρ trivial

/-- The same of the reference, which has no counter at all. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference from proper inputs. -/
theorem frame_ReferenceIdeal_proper : Cert.quiescent_ReferenceIdeal_pre_proper_inputs (hReferenceIdeal := Cert.ReferenceIdeal.Gen.facts)
    (hPre_proper_inputs := Cert.Pre_proper_inputs.Gen.facts) := fun m ρ _ =>
  frame_ReferenceIdeal m ρ trivial

/-- The four named constants: each the rational the table gives it, and at the bit-exact instance its word. -/
theorem preserves : Cert.preserves_Kernel_KernelIdeal :=
  ⟨IdealRules.named_const.statement Cert.KernelIdeal.κ "inv_step_0" .f32 0x4044EC4F#32 ((16777216 / 5452595 : ℝ) : EReal) rfl,
    IdealRules.named_const.statement Cert.KernelIdeal.κ "inv_step_1" .f32 0x41C4EC4F#32 ((134217728 / 5452595 : ℝ) : EReal) rfl,
    IdealRules.named_const.statement Cert.KernelIdeal.κ "inv_step_2" .f32 0x4344EC4F#32 ((1073741824 / 5452595 : ℝ) : EReal) rfl,
    IdealRules.named_const.statement Cert.KernelIdeal.κ "inv_step_3" .f32 0x44C4EC4F#32 ((8589934592 / 5452595 : ℝ) : EReal) rfl⟩

/-- Each row index of a one-column array. -/
theorem column (i : (⟨2, ![1024, 1]⟩ : Shape).Idx) : i = ix2 (i 0) 0 :=
  funext fun a => by
    refine Fin.ext ?_
    fin_cases a
    · rfl
    · show (i 1).val = 0
      have : (i 1).val < 1 := (i 1).isLt
      omega

/-- On the rows of the mask both results are the mean over the 128 largest scores, or zero where a score is infinite upwards. -/
theorem algebraic : Cert.algebraic_KernelIdeal_ReferenceIdeal_on_separated_pre_proper_inputs (hKernelIdeal := Cert.KernelIdeal.Gen.facts)
    (hReferenceIdeal := Cert.ReferenceIdeal.Gen.facts) (hPre_proper_inputs := Cert.Pre_proper_inputs.Gen.facts)
    (hOn_separated := Cert.On_separated.Gen.facts) := by
  intro m g m' g' hp hargs
  let B (c : Dev Cert.KernelIdeal.nD) : Proper m c :=
    Proper.ofProper (Prod.ext (hp c).1 (hp c).2)
  refine ⟨fun c => Cert.ReferenceIdeal.Value.res_main_v46 m' c, ?_, ?_⟩
  · refine (θ_run Cert.KernelIdeal.defs _ _).mono (fun r h c => ⟨fun i hi => ?_, final_args h.1 c⟩)
      (run_main (F := Ideal) g (thePlan B))
    rw [column i] at hi ⊢
    have hs : (B c).Separated (i 0) := (B c).separated_of_mask hi
    obtain ⟨h0, h1, h2, h3⟩ := hargs c
    exact ((final_quot B c h.1 (i 0) hs).trans ((B c).quot_eq hs)).trans ((B c).reference_eq m' h0 h1 h2 h3 hs).symm
  · exact (θ_run Cert.ReferenceIdeal.defs _ _).mono (fun r h c => ⟨fun i _ => congrFun (h c).1 i, (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_proper_inputs.Gen.facts,
    Cert.On_separated.Gen.facts, frame_Kernel, frame_KernelIdeal, frame_KernelIdeal_proper, frame_ReferenceIdeal,
    frame_ReferenceIdeal_proper, preserves, algebraic⟩

end Cert.Proof

end
